-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v56_0)) (v1 : (c : Dev Cert.Kernel2Ideal.nD) → Buf (Elt Ideal) ((c.tc : Thread Cert.Kernel2Ideal.nD Cert.Kernel2Ideal.τ).loc Cert.Kernel2Ideal.main_v56_1)) (v2 : (c : Dev Cert.Kernel2Ideal.nD) → Buf (Elt Ideal) ((c.tc : Thread Cert.Kernel2Ideal.nD Cert.Kernel2Ideal.τ).loc Cert.Kernel2Ideal.main_v56_2)) (v3 : (c : Dev Cert.Kernel2Ideal.nD) → Buf (Elt Ideal) ((c.tc : Thread Cert.Kernel2Ideal.nD Cert.Kernel2Ideal.τ).loc Cert.Kernel2Ideal.main_v56_3)) (v4 : (c : Dev Cert.Kernel2Ideal.nD) → Buf (Elt Ideal) ((c.tc : Thread Cert.Kernel2Ideal.nD Cert.Kernel2Ideal.τ).loc Cert.Kernel2Ideal.main_v56_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v56_0) = v0 c
          ∧ r.2.mem ((c.tc : Thread Cert.Kernel2Ideal.nD Cert.Kernel2Ideal.τ).loc Cert.Kernel2Ideal.main_v56_1) = v1 c
          ∧ r.2.mem ((c.tc : Thread Cert.Kernel2Ideal.nD Cert.Kernel2Ideal.τ).loc Cert.Kernel2Ideal.main_v56_2) = v2 c
          ∧ r.2.mem ((c.tc : Thread Cert.Kernel2Ideal.nD Cert.Kernel2Ideal.τ).loc Cert.Kernel2Ideal.main_v56_3) = v3 c
          ∧ r.2.mem ((c.tc : Thread Cert.Kernel2Ideal.nD Cert.Kernel2Ideal.τ).loc Cert.Kernel2Ideal.main_v56_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v135) = v0 c
          ∧ r.2.mem ((c.tc : Thread Cert.Reference2Ideal.nD Cert.Reference2Ideal.τ).loc Cert.Reference2Ideal.main_v136) = v1 c
          ∧ r.2.mem ((c.tc : Thread Cert.Reference2Ideal.nD Cert.Reference2Ideal.τ).loc Cert.Reference2Ideal.main_v137) = v2 c
          ∧ r.2.mem ((c.tc : Thread Cert.Reference2Ideal.nD Cert.Reference2Ideal.τ).loc Cert.Reference2Ideal.main_v138) = v3 c
          ∧ r.2.mem ((c.tc : Thread Cert.Reference2Ideal.nD Cert.Reference2Ideal.τ).loc Cert.Reference2Ideal.main_v139) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8x4096x1024 : Shape := ⟨3, ![8, 4096, 1024]⟩
abbrev S8x256x1024 : Shape := ⟨3, ![8, 256, 1024]⟩
abbrev S1x64 : Shape := ⟨2, ![1, 64]⟩
abbrev S1x128 : Shape := ⟨2, ![1, 128]⟩
abbrev S_ : Shape := ⟨0, ![]⟩

class Facts : Prop where
  bcast_S_S8x4096x1024 : S_.BroadcastsInDim S8x4096x1024 (![] : Fin 0 → Fin S8x4096x1024.rank)
  bcast_S_S8x256x1024 : S_.BroadcastsInDim S8x256x1024 (![] : Fin 0 → Fin S8x256x1024.rank)
  bcast_S_S1x64 : S_.BroadcastsInDim S1x64 (![] : Fin 0 → Fin S1x64.rank)

variable [Facts]

def fn {F : FTy → Type} [FloatOps F] (main_arg0 : FVec F S8x4096x1024 .f32) (main_arg1 : FVec F S8x4096x1024 .f32) (main_arg2 : FVec F S8x4096x1024 .f32) (main_arg3 : FVec F S8x256x1024 .f32) (main_arg4 : FVec F S8x256x1024 .f32) (main_arg5 : FVec F S1x64 .f32) (main_arg6 : FVec F S1x64 .f32) (main_arg7 : FVec F S1x64 .f32) (main_arg8 : FVec F S1x64 .f32) (main_arg9 : FVec F S1x128 .f32) : IVec S8x4096x1024 1 × IVec S8x256x1024 1 × IVec S1x64 1 × IVec S1x64 1 × IVec S1x64 1 × IVec S1x64 1 :=
  let main_v0 : FVec F S8x4096x1024 .f32 := Host.absf main_arg2
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x256x1024 .f32 := Host.absf main_arg4
  let main_cst_0 : FVec F S_ .f32 := constant S_ .f32 0x7F800000#32
  let main_v4 : FVec F S8x256x1024 .f32 := broadcastInDim S8x256x1024 ![] bcast_S_S8x256x1024 main_cst_0
  let main_v5 : IVec S8x256x1024 1 := cmpf .olt main_v3 main_v4
  let main_v6 : FVec F S1x64 .f32 := Host.absf main_arg5
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg6
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg7
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg8
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  (main_v2, main_v5, main_v8, main_v11, main_v14, main_v17)
-- ==== Kernel.lean ====
abbrev S8x4096x1024 : Shape := ⟨3, ![8, 4096, 1024]⟩
abbrev S8x256x1024 : Shape := ⟨3, ![8, 256, 1024]⟩
abbrev S1x64 : Shape := ⟨2, ![1, 64]⟩
abbrev S1x128 : Shape := ⟨2, ![1, 128]⟩
abbrev S64 : Shape := ⟨1, ![64]⟩
abbrev S_ : Shape := ⟨0, ![]⟩
abbrev S1x1 : Shape := ⟨2, ![1, 1]⟩
abbrev S128 : Shape := ⟨1, ![128]⟩
abbrev S1x4096x128 : Shape := ⟨3, ![1, 4096, 128]⟩
abbrev S1x256x128 : Shape := ⟨3, ![1, 256, 128]⟩
abbrev S2x4096x128 : Shape := ⟨3, ![2, 4096, 128]⟩
abbrev S2x4096x256 : Shape := ⟨3, ![2, 4096, 256]⟩
abbrev S4096x128 : Shape := ⟨2, ![4096, 128]⟩
abbrev S256x128 : Shape := ⟨2, ![256, 128]⟩
abbrev S256x256 : Shape := ⟨2, ![256, 256]⟩
abbrev S4096x256 : Shape := ⟨2, ![4096, 256]⟩
abbrev S4096 : Shape := ⟨1, ![4096]⟩
abbrev S4096x1 : Shape := ⟨2, ![4096, 1]⟩
abbrev S1x4096x256 : Shape := ⟨3, ![1, 4096, 256]⟩
abbrev S1x512x128 : Shape := ⟨3, ![1, 512, 128]⟩
abbrev S512x128 : Shape := ⟨2, ![512, 128]⟩
abbrev S512x256 : Shape := ⟨2, ![512, 256]⟩
abbrev S4096x512 : Shape := ⟨2, ![4096, 512]⟩

abbrev nBuf : Space → Nat
  | .hbm => 33
  | .vmem => 15
  | .smem => 1
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x256x1024, .f32⟩
  | .hbm, ⟨4, _⟩ => ⟨S8x256x1024, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S8x4096x1024, .bf16⟩
  | .hbm, ⟨27, _⟩ => ⟨S8x4096x1024, .bf16⟩
  | .hbm, ⟨28, _⟩ => ⟨S8x256x1024, .bf16⟩
  | .hbm, ⟨29, _⟩ => ⟨S8x256x1024, .bf16⟩
  | .hbm, ⟨30, _⟩ => ⟨S128, .f32⟩
  | .hbm, ⟨31, _⟩ => ⟨S1x128, .f32⟩
  | .hbm, ⟨32, _⟩ => ⟨S8x4096x1024, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x128, .f32⟩
  | .local _ .vmem, ⟨11, _⟩ => ⟨S1x4096x128, .bf16⟩
  | .local _ .vmem, ⟨12, _⟩ => ⟨S1x4096x128, .bf16⟩
  | .local _ .vmem, ⟨13, _⟩ => ⟨S2x4096x128, .f32⟩
  | .local _ .vmem, ⟨14, _⟩ => ⟨S2x4096x256, .f32⟩
  | .local _ .smem, ⟨0, _⟩ => ⟨S1x1, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 1], ![false, false, false]⟩

@[reducible] def k0_t1_loop : Scf.Loop 32 :=
  let c0_i32 : BitVec 32 := 0#32
  let c8_i32 : BitVec 32 := 8#32
  let v55 : BitVec 32 := Scalar.addi c0_i32 c8_i32
  let c1_i32 : BitVec 32 := 1#32
  ⟨c0_i32, v55, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v90 : BitVec 32 := Scalar.muli arg13 c512_i32
  v90
def k0_off1 (k0_t1 : Fin k0_t1_loop.trips) : Fin 3 → Nat :=
  let c0_46 : Index := 0#32
  let c0_i32 : BitVec 32 := 0#32
  let c1_i32 : BitVec 32 := 1#32
  let arg13 : BitVec 32 := Scf.iv c0_i32 c1_i32 k0_t1
  let c512_i32 : BitVec 32 := 512#32
  let v90 : BitVec 32 := Scalar.muli arg13 c512_i32
  let v91 : BitVec 32 := v90
  let v92 : Index := Scalar.indexCast v91
  let c0_47 : Index := 0#32
  ![0, v92.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S8x4096x1024 : Shape := ⟨3, ![8, 4096, 1024]⟩
abbrev S8x256x1024 : Shape := ⟨3, ![8, 256, 1024]⟩
abbrev S1x64 : Shape := ⟨2, ![1, 64]⟩
abbrev S1x128 : Shape := ⟨2, ![1, 128]⟩
abbrev S64 : Shape := ⟨1, ![64]⟩
abbrev S_ : Shape := ⟨0, ![]⟩
abbrev S8x4096x8x2x64 : Shape := ⟨5, ![8, 4096, 8, 2, 64]⟩
abbrev S8x256x8x2x64 : Shape := ⟨5, ![8, 256, 8, 2, 64]⟩
abbrev S8x4352x8x2x64 : Shape := ⟨5, ![8, 4352, 8, 2, 64]⟩
abbrev S8x4096x8x128 : Shape := ⟨4, ![8, 4096, 8, 128]⟩
abbrev S8x256x8x128 : Shape := ⟨4, ![8, 256, 8, 128]⟩
abbrev S8x4352x8x128 : Shape := ⟨4, ![8, 4352, 8, 128]⟩
abbrev S8x8x2x4096x4352 : Shape := ⟨5, ![8, 8, 2, 4096, 4352]⟩
abbrev S8x8x2x4096 : Shape := ⟨4, ![8, 8, 2, 4096]⟩
abbrev S8x8x2x4096x1 : Shape := ⟨5, ![8, 8, 2, 4096, 1]⟩
abbrev S8x8x1x4096x4352 : Shape := ⟨5, ![8, 8, 1, 4096, 4352]⟩
abbrev S8x8x4096x4352 : Shape := ⟨4, ![8, 8, 4096, 4352]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S128 : Shape := ⟨1, ![128]⟩
abbrev S1x1x1x128 : Shape := ⟨4, ![1, 1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x256x1024, .f32⟩
  | .hbm, ⟨4, _⟩ => ⟨S8x256x1024, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x4096x8x2x64, .f32⟩
  | .hbm, ⟨26, _⟩ => ⟨S8x4096x8x2x64, .f32⟩
  | .hbm, ⟨27, _⟩ => ⟨S8x256x8x2x64, .f32⟩
  | .hbm, ⟨28, _⟩ => ⟨S8x4352x8x2x64, .f32⟩
  | .hbm, ⟨29, _⟩ => ⟨S8x4096x8x128, .f32⟩
  | .hbm, ⟨30, _⟩ => ⟨S8x256x8x128, .f32⟩
  | .hbm, ⟨31, _⟩ => ⟨S8x4352x8x128, .f32⟩
  | .hbm, ⟨32, _⟩ => ⟨S8x8x2x4096x4352, .f32⟩
  | .hbm, ⟨33, _⟩ => ⟨S_, .f32⟩
  | .hbm, ⟨34, _⟩ => ⟨S8x8x2x4096x4352, .f32⟩
  | .hbm, ⟨35, _⟩ => ⟨S8x8x2x4096x4352, .f32⟩
  | .hbm, ⟨36, _⟩ => ⟨S_, .f32⟩
  | .hbm, ⟨37, _⟩ => ⟨S8x8x2x4096, .f32⟩
  | .hbm, ⟨38, _⟩ => ⟨S_, .f32⟩
  | .hbm, ⟨39, _⟩ => ⟨S8x8x2x4096, .f32⟩
  | .hbm, ⟨40, _⟩ => ⟨S8x8x2x4096, .f32⟩
  | .hbm, ⟨41, _⟩ => ⟨S8x8x2x4096x1, .f32⟩
  | .hbm, ⟨42, _⟩ => ⟨S8x8x2x4096x4352, .f32⟩
  | .hbm, ⟨43, _⟩ => ⟨S8x8x2x4096x4352, .f32⟩
  | .hbm, ⟨44, _⟩ => ⟨S8x8x2x4096x4352, .f32⟩
  | .hbm, ⟨45, _⟩ => ⟨S_, .f32⟩
  | .hbm, ⟨46, _⟩ => ⟨S8x8x2x4096, .f32⟩
  | .hbm, ⟨47, _⟩ => ⟨S8x8x2x4096x1, .f32⟩
  | .hbm, ⟨48, _⟩ => ⟨S8x8x2x4096x4352, .f32⟩
  | .hbm, ⟨49, _⟩ => ⟨S8x8x2x4096x4352, .f32⟩
  | .hbm, ⟨50, _⟩ => ⟨S8x8x1x4096x4352, .f32⟩
  | .hbm, ⟨51, _⟩ => ⟨S8x8x4096x4352, .f32⟩
  | .hbm, ⟨52, _⟩ => ⟨S8x8x1x4096x4352, .f32⟩
  | .hbm, ⟨53, _⟩ => ⟨S8x8x4096x4352, .f32⟩
  | .hbm, ⟨54, _⟩ => ⟨S8x8x4096x4352, .f32⟩
  | .hbm, ⟨55, _⟩ => ⟨S8x8x4096x4352, .f32⟩
  | .hbm, ⟨56, _⟩ => ⟨S8x8x4096x4352, .f32⟩
  | .hbm, ⟨57, _⟩ => ⟨S8x8x128x4096, .f32⟩
  | .hbm, ⟨58, _⟩ => ⟨S8x4096x8x128, .f32⟩
  | .hbm, ⟨59, _⟩ => ⟨S8x4096x8x128, .f32⟩
  | .hbm, ⟨60, _⟩ => ⟨S_, .f32⟩
  | .hbm, ⟨61, _⟩ => ⟨S8x4096x8, .f32⟩
  | .hbm, ⟨62, _⟩ => ⟨S8x4096x8x1, .f32⟩
  | .hbm, ⟨63, _⟩ => ⟨S_, .f32⟩
  | .hbm, ⟨64, _⟩ => ⟨S8x4096x8x1, .f32⟩
  | .hbm, ⟨65, _⟩ => ⟨S8x4096x8x1, .f32⟩
  | .hbm, ⟨66, _⟩ => ⟨S_, .f32⟩
  | .hbm, ⟨67, _⟩ => ⟨S8x4096x8x1, .f32⟩
  | .hbm, ⟨68, _⟩ => ⟨S8x4096x8x1, .f32⟩
  | .hbm, ⟨69, _⟩ => ⟨S8x4096x8x1, .f32⟩
  | .hbm, ⟨70, _⟩ => ⟨S8x4096x8x128, .f32⟩
  | .hbm, ⟨71, _⟩ => ⟨S8x4096x8x128, .f32⟩
  | .hbm, ⟨72, _⟩ => ⟨S128, .f32⟩
  | .hbm, ⟨73, _⟩ => ⟨S1x1x1x128, .f32⟩
  | .hbm, ⟨74, _⟩ => ⟨S8x4096x8x128, .f32⟩
  | .hbm, ⟨75, _⟩ => ⟨S8x4096x8x128, .f32⟩
  | .hbm, ⟨76, _⟩ => ⟨S_, .f32⟩
  | .hbm, ⟨77, _⟩ => ⟨S8x4096x8x128, .f32⟩
  | .hbm, ⟨78, _⟩ => ⟨S8x4096x8x128, .f32⟩
  | .hbm, ⟨79, _⟩ => ⟨S8x4096x1024, .f32⟩
  | .hbm, ⟨80, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x8192 : Shape := ⟨3, ![1, 1024, 8192]⟩
abbrev S1x3x3072 : Shape := ⟨3, ![1, 3, 3072]⟩
abbrev S1x3072 : Shape := ⟨2, ![1, 3072]⟩
abbrev S1024x8192 : Shape := ⟨2, ![1024, 8192]⟩
abbrev S1024 : Shape := ⟨1, ![1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4096x2x1x16 : Shape := ⟨4, ![4096, 2, 1, 16]⟩
abbrev S4096x2x2x16 : Shape := ⟨4, ![4096, 2, 2, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S3x3072 : Shape := ⟨2, ![3, 3072]⟩
abbrev S3072 : Shape := ⟨1, ![3072]⟩
abbrev S8x4096x3072 : Shape := ⟨3, ![8, 4096, 3072]⟩
abbrev S8x4096x2048 : Shape := ⟨3, ![8, 4096, 2048]⟩
abbrev S1x512x1024 : Shape := ⟨3, ![1, 512, 1024]⟩
abbrev S1x8x1024 : Shape := ⟨3, ![1, 8, 1024]⟩
abbrev S1x1x1024 : Shape := ⟨3, ![1, 1, 1024]⟩
abbrev S512x128 : Shape := ⟨2, ![512, 128]⟩
abbrev S1x512x3072 : Shape := ⟨3, ![1, 512, 3072]⟩
abbrev S1x512x2048 : Shape := ⟨3, ![1, 512, 2048]⟩
abbrev S528x1024 : Shape := ⟨2, ![528, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S8 : Shape := ⟨1, ![8]⟩
abbrev S8x1 : Shape := ⟨2, ![8, 1]⟩
abbrev S1x128 : Shape := ⟨2, ![1, 128]⟩
abbrev S1024x1024 : Shape := ⟨2, ![1024, 1024]⟩
abbrev S1x512x128 : Shape := ⟨3, ![1, 512, 128]⟩
abbrev S3x1024 : Shape := ⟨2, ![3, 1024]⟩

abbrev nBuf : Space → Nat
  | .hbm => 72
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x8192, .f32⟩
  | .hbm, ⟨5, _⟩ => ⟨S1x3x3072, .f32⟩
  | .hbm, ⟨6, _⟩ => ⟨S1x3072, .f32⟩
  | .hbm, ⟨7, _⟩ => ⟨S1024x8192, .f32⟩
  | .hbm, ⟨8, _⟩ => ⟨S1024x8192, .bf16⟩
  | .hbm, ⟨9, _⟩ => ⟨S1024, .f32⟩
  | .hbm, ⟨10, _⟩ => ⟨S1x1024, .f32⟩
  | .hbm, ⟨11, _⟩ => ⟨S64, .i32⟩
  | .hbm, ⟨12, _⟩ => ⟨S64x64, .i32⟩
  | .hbm, ⟨13, _⟩ => ⟨S4096, .i32⟩
  | .hbm, ⟨14, _⟩ => ⟨S4096, .f32⟩
  | .hbm, ⟨15, _⟩ => ⟨S64, .i32⟩
  | .hbm, ⟨16, _⟩ => ⟨S1x64, .i32⟩
  | .hbm, ⟨17, _⟩ => ⟨S64x64, .i32⟩
  | .hbm, ⟨18, _⟩ => ⟨S4096, .i32⟩
  | .hbm, ⟨19, _⟩ => ⟨S4096, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S4096x1, .f32⟩
  | .hbm, ⟨35, _⟩ => ⟨S1x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x1, .f32⟩
  | .hbm, ⟨40, _⟩ => ⟨S1x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096x1x16, .f32⟩
  | .hbm, ⟨45, _⟩ => ⟨S4096x1x16, .f32⟩
  | .hbm, ⟨46, _⟩ => ⟨S4096x2x16, .f32⟩
  | .hbm, ⟨47, _⟩ => ⟨S4096x2x16, .f32⟩
  | .hbm, ⟨48, _⟩ => ⟨S4096x2x16, .f32⟩
  | .hbm, ⟨49, _⟩ => ⟨S4096x2x1x16, .f32⟩
  | .hbm, ⟨50, _⟩ => ⟨S4096x2x1x16, .f32⟩
  | .hbm, ⟨51, _⟩ => ⟨S4096x2x2x16, .f32⟩
  | .hbm, ⟨52, _⟩ => ⟨S4096x64, .f32⟩
  | .hbm, ⟨53, _⟩ => ⟨S4096x2x16, .f32⟩
  | .hbm, ⟨54, _⟩ => ⟨S4096x2x1x16, .f32⟩
  | .hbm, ⟨55, _⟩ => ⟨S4096x2x1x16, .f32⟩
  | .hbm, ⟨56, _⟩ => ⟨S4096x2x2x16, .f32⟩
  | .hbm, ⟨57, _⟩ => ⟨S4096x64, .f32⟩
  | .hbm, ⟨58, _⟩ => ⟨S1x4096x1x64, .f32⟩
  | .hbm, ⟨59, _⟩ => ⟨S1x4096x2x64, .f32⟩
  | .hbm, ⟨60, _⟩ => ⟨S4096x128, .f32⟩
  | .hbm, ⟨61, _⟩ => ⟨S1x4096x1x64, .f32⟩
  | .hbm, ⟨62, _⟩ => ⟨S1x4096x2x64, .f32⟩
  | .hbm, ⟨63, _⟩ => ⟨S4096x128, .f32⟩
  | .hbm, ⟨64, _⟩ => ⟨S3x3072, .f32⟩
  | .hbm, ⟨65, _⟩ => ⟨S3072, .f32⟩
  | .hbm, ⟨66, _⟩ => ⟨S1x3072, .f32⟩
  | .hbm, ⟨67, _⟩ => ⟨S8x4096x1024, .bf16⟩
  | .hbm, ⟨68, _⟩ => ⟨S8x4096x1024, .bf16⟩
  | .hbm, ⟨69, _⟩ => ⟨S8x4096x1024, .bf16⟩
  | .hbm, ⟨70, _⟩ => ⟨S8x4096x3072, .bf16⟩
  | .hbm, ⟨71, _⟩ => ⟨S8x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x8192, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S3x3072, .f32⟩
  | .local _ .vmem, ⟨17, _⟩ => ⟨S1x3072, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x3072, .bf16⟩
  | .local _ .vmem, ⟨25, _⟩ => ⟨S1x512x3072, .bf16⟩
  | .local _ .vmem, ⟨26, _⟩ => ⟨S1x512x2048, .bf16⟩
  | .local _ .vmem, ⟨27, _⟩ => ⟨S1x512x2048, .bf16⟩
  | .local _ .vmem, ⟨28, _⟩ => ⟨S528x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56_0 : Ref sig .tc := ⟨.hbm, 67, rfl⟩
abbrev main_v56_1 : Ref sig .tc := ⟨.hbm, 68, rfl⟩
abbrev main_v56_2 : Ref sig .tc := ⟨.hbm, 69, rfl⟩
abbrev main_v56_3 : Ref sig .tc := ⟨.hbm, 70, rfl⟩
abbrev main_v56_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S3x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x8192 : Shape := ⟨3, ![1, 1024, 8192]⟩
abbrev S1x3x3072 : Shape := ⟨3, ![1, 3, 3072]⟩
abbrev S1x3072 : Shape := ⟨2, ![1, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4096x1x2x16 : Shape := ⟨4, ![4096, 1, 2, 16]⟩
abbrev S4096x16x2x16 : Shape := ⟨4, ![4096, 16, 2, 16]⟩
abbrev S4096x32x16 : Shape := ⟨3, ![4096, 32, 16]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x8192 : Shape := ⟨2, ![1024, 8192]⟩
abbrev S8x4096x8192 : Shape := ⟨3, ![8, 4096, 8192]⟩
abbrev S8x4096x32x2x16 : Shape := ⟨5, ![8, 4096, 32, 2, 16]⟩
abbrev S8x4096x32x1x16 : Shape := ⟨5, ![8, 4096, 32, 1, 16]⟩
abbrev S8x4096x32x16 : Shape := ⟨4, ![8, 4096, 32, 16]⟩
abbrev S1x4096x32x16 : Shape := ⟨4, ![1, 4096, 32, 16]⟩
abbrev S8x4096x3072 : Shape := ⟨3, ![8, 4096, 3072]⟩
abbrev S8x4098x3072 : Shape := ⟨3, ![8, 4098, 3072]⟩
abbrev S1x1x3072 : Shape := ⟨3, ![1, 1, 3072]⟩
abbrev S3072 : Shape := ⟨1, ![3072]⟩
abbrev S8x4096x2048 : Shape := ⟨3, ![8, 4096, 2048]⟩

abbrev nBuf : Space → Nat
  | .hbm => 157
  | .vmem => 0
  | .smem => 0
  | _ => 0

abbrev hbmTy0_0 (i : Nat) : BufTy := match i % 128 with
  | 0 => ⟨S8x4096x1024, .f32⟩
  | 1 => ⟨S8x1x1024, .f32⟩
  | 2 => ⟨S8x1x1024, .f32⟩
  | 3 => ⟨S1x1024, .f32⟩
  | 4 => ⟨S1x1024x8192, .f32⟩
  | 5 => ⟨S1x3x3072, .f32⟩
  | 6 => ⟨S1x3072, .f32⟩
  | 7 => ⟨S64, .i32⟩
  | 8 => ⟨S64x64, .i32⟩
  | 9 => ⟨S4096, .i32⟩
  | 10 => ⟨S4096, .f32⟩
  | 11 => ⟨S64, .i32⟩
  | 12 => ⟨S1x64, .i32⟩
  | 13 => ⟨S64x64, .i32⟩
  | 14 => ⟨S4096, .i32⟩
  | 15 => ⟨S4096, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S4096x1, .f32⟩
  | 31 => ⟨S1x16, .f32⟩
  | 32 => ⟨S4096x16, .f32⟩
  | 33 => ⟨S4096x16, .f32⟩
  | 34 => ⟨S4096x16, .f32⟩
  | 35 => ⟨S4096x1, .f32⟩
  | 36 => ⟨S1x16, .f32⟩
  | 37 => ⟨S4096x16, .f32⟩
  | 38 => ⟨S4096x16, .f32⟩
  | 39 => ⟨S4096x16, .f32⟩
  | 40 => ⟨S4096x1x16, .f32⟩
  | 41 => ⟨S4096x1x16, .f32⟩
  | 42 => ⟨S4096x2x16, .f32⟩
  | 43 => ⟨S4096x1x2x16, .f32⟩
  | 44 => ⟨S4096x16x2x16, .f32⟩
  | 45 => ⟨S4096x32x16, .f32⟩
  | 46 => ⟨S4096x32x16, .f32⟩
  | 47 => ⟨S4096x32x16, .f32⟩
  | 48 => ⟨S8x4096x1024, .f32⟩
  | 49 => ⟨S_, .f32⟩
  | 50 => ⟨S8x4096, .f32⟩
  | 51 => ⟨S8x4096x1, .f32⟩
  | 52 => ⟨S_, .f32⟩
  | 53 => ⟨S8x4096x1, .f32⟩
  | 54 => ⟨S8x4096x1, .f32⟩
  | 55 => ⟨S_, .f32⟩
  | 56 => ⟨S8x4096x1, .f32⟩
  | 57 => ⟨S8x4096x1, .f32⟩
  | 58 => ⟨S8x4096x1, .f32⟩
  | 59 => ⟨S8x4096x1024, .f32⟩
  | 60 => ⟨S8x4096x1024, .f32⟩
  | 61 => ⟨S1024, .f32⟩
  | 62 => ⟨S1x1x1024, .f32⟩
  | 63 => ⟨S8x4096x1024, .f32⟩
  | 64 => ⟨S8x4096x1024, .f32⟩
  | 65 => ⟨S_, .f32⟩
  | 66 => ⟨S8x1x1024, .f32⟩
  | 67 => ⟨S8x1x1024, .f32⟩
  | 68 => ⟨S8x4096x1024, .f32⟩
  | 69 => ⟨S8x4096x1024, .f32⟩
  | 70 => ⟨S8x4096x1024, .f32⟩
  | 71 => ⟨S8x4096x1024, .f32⟩
  | 72 => ⟨S1024x8192, .f32⟩
  | 73 => ⟨S8x4096x8192, .f32⟩
  | 74 => ⟨S8x4096x1024, .f32⟩
  | 75 => ⟨S8x4096x32x2x16, .f32⟩
  | 76 => ⟨S8x4096x32x1x16, .f32⟩
  | 77 => ⟨S8x4096x32x16, .f32⟩
  | 78 => ⟨S8x4096x32x1x16, .f32⟩
  | 79 => ⟨S8x4096x32x16, .f32⟩
  | 80 => ⟨S1x4096x32x16, .f32⟩
  | 81 => ⟨S8x4096x32x16, .f32⟩
  | 82 => ⟨S8x4096x32x16, .f32⟩
  | 83 => ⟨S1x4096x32x16, .f32⟩
  | 84 => ⟨S8x4096x32x16, .f32⟩
  | 85 => ⟨S8x4096x32x16, .f32⟩
  | 86 => ⟨S8x4096x32x16, .f32⟩
  | 87 => ⟨S1x4096x32x16, .f32⟩
  | 88 => ⟨S8x4096x32x16, .f32⟩
  | 89 => ⟨S8x4096x32x16, .f32⟩
  | 90 => ⟨S1x4096x32x16, .f32⟩
  | 91 => ⟨S8x4096x32x16, .f32⟩
  | 92 => ⟨S8x4096x32x16, .f32⟩
  | 93 => ⟨S8x4096x32x16, .f32⟩
  | 94 => ⟨S8x4096x32x1x16, .f32⟩
  | 95 => ⟨S8x4096x32x1x16, .f32⟩
  | 96 => ⟨S8x4096x32x2x16, .f32⟩
  | 97 => ⟨S8x4096x1024, .f32⟩
  | 98 => ⟨S8x4096x1024, .f32⟩
  | 99 => ⟨S8x4096x1024, .f32⟩
  | 100 => ⟨S8x4096x32x2x16, .f32⟩
  | 101 => ⟨S8x4096x32x1x16, .f32⟩
  | 102 => ⟨S8x4096x32x16, .f32⟩
  | 103 => ⟨S8x4096x32x1x16, .f32⟩
  | 104 => ⟨S8x4096x32x16, .f32⟩
  | 105 => ⟨S1x4096x32x16, .f32⟩
  | 106 => ⟨S8x4096x32x16, .f32⟩
  | 107 => ⟨S8x4096x32x16, .f32⟩
  | 108 => ⟨S1x4096x32x16, .f32⟩
  | 109 => ⟨S8x4096x32x16, .f32⟩
  | 110 => ⟨S8x4096x32x16, .f32⟩
  | 111 => ⟨S8x4096x32x16, .f32⟩
  | 112 => ⟨S1x4096x32x16, .f32⟩
  | 113 => ⟨S8x4096x32x16, .f32⟩
  | 114 => ⟨S8x4096x32x16, .f32⟩
  | 115 => ⟨S1x4096x32x16, .f32⟩
  | 116 => ⟨S8x4096x32x16, .f32⟩
  | 117 => ⟨S8x4096x32x16, .f32⟩
  | 118 => ⟨S8x4096x32x16, .f32⟩
  | 119 => ⟨S8x4096x32x1x16, .f32⟩
  | 120 => ⟨S8x4096x32x1x16, .f32⟩
  | 121 => ⟨S8x4096x32x2x16, .f32⟩
  | 122 => ⟨S8x4096x1024, .f32⟩
  | 123 => ⟨S8x4096x3072, .f32⟩
  | 124 => ⟨S_, .i32⟩
  | 125 => ⟨S_, .f32⟩
  | 126 => ⟨S8x4098x3072, .f32⟩
  | 127 => ⟨S8x4096x3072, .f32⟩
  | _ => ⟨S8x4096x1024, .f32⟩

abbrev hbmTy0_1 (i : Nat) : BufTy := match i % 128 with
  | 0 => ⟨S1x1x3072, .f32⟩
  | 1 => ⟨S3072, .f32⟩
  | 2 => ⟨S1x1x3072, .f32⟩
  | 3 => ⟨S8x4096x3072, .f32⟩
  | 4 => ⟨S8x4096x3072, .f32⟩
  | 5 => ⟨S8x4096x3072, .f32⟩
  | 6 => ⟨S1x1x3072, .f32⟩
  | 7 => ⟨S3072, .f32⟩
  | 8 => ⟨S1x1x3072, .f32⟩
  | 9 => ⟨S8x4096x3072, .f32⟩
  | 10 => ⟨S8x4096x3072, .f32⟩
  | 11 => ⟨S8x4096x3072, .f32⟩
  | 12 => ⟨S8x4096x3072, .f32⟩
  | 13 => ⟨S1x1x3072, .f32⟩
  | 14 => ⟨S3072, .f32⟩
  | 15 => ⟨S1x1x3072, .f32⟩
  | 16 => ⟨S8x4096x3072, .f32⟩
  | 17 => ⟨S8x4096x3072, .f32⟩
  | 18 => ⟨S8x4096x3072, .f32⟩
  | 19 => ⟨S3072, .f32⟩
  | 20 => ⟨S1x1x3072, .f32⟩
  | 21 => ⟨S8x4096x3072, .f32⟩
  | 22 => ⟨S8x4096x3072, .f32⟩
  | 23 => ⟨S8x4096x2048, .f32⟩
  | 24 => ⟨S8x4096x1024, .bf16⟩
  | 25 => ⟨S8x4096x1024, .bf16⟩
  | 26 => ⟨S8x4096x1024, .bf16⟩
  | 27 => ⟨S8x4096x3072, .bf16⟩
  | 28 => ⟨S8x4096x2048, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_c : Ref sig .tc := ⟨.hbm, 124, rfl⟩
abbrev main_call0_v0 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩

abbrev nD : Nat := 1
abbrev τ : Topo := Topo.v7x

variable {F : FTy → Type} [FloatOps F]
-- ==== Proof.Trip.lean ====
module

public import proofs.«01_k».proof.Proof.Gen.KernelIdeal.Frame
public import Idealize.ShloMosaic.Lib.WritesUnit
public import Idealize.ShloMosaic.Lib.Pipeline.Value

@[expose] public section

/-!
The scratch memories of the attention body, read as pure functions.

The loop over the latent chunks keeps, for each of the two attention maps, a running maximum and a running
accumulator. This module reads one trip's stores, and by induction all trips' stores, as a recursion on
those four vectors; the recursion mentions no memory.
-/

set_option maxRecDepth 16384

noncomputable section
namespace Cert.KernelIdeal.Own

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- The part of the maxima's memory that belongs to map 0. -/
abbrev mr0 : Rect S2x4096x128 := Rect.unit (s := S2x4096x128) ![0, 0, 0] S1x4096x128.size inb_S2x4096x128_S1x4096x128_0_0_0
/-- The part of the maxima's memory that belongs to map 1. -/
abbrev mr1 : Rect S2x4096x128 := Rect.unit (s := S2x4096x128) ![1, 0, 0] S1x4096x128.size inb_S2x4096x128_S1x4096x128_1_0_0
/-- The part of the accumulators' memory that belongs to map 0. -/
abbrev ar0 : Rect S2x4096x256 := Rect.unit (s := S2x4096x256) ![0, 0, 0] S1x4096x256.size inb_S2x4096x256_S1x4096x256_0_0_0
/-- The part of the accumulators' memory that belongs to map 1. -/
abbrev ar1 : Rect S2x4096x256 := Rect.unit (s := S2x4096x256) ![1, 0, 0] S1x4096x256.size inb_S2x4096x256_S1x4096x256_1_0_0

/-- The running values of both maps: a maximum and an accumulator each. -/
structure Run (F : FTy → Type) where
  m0 : Vec F S1x4096x128 .f32
  a0 : Vec F S1x4096x256 .f32
  m1 : Vec F S1x4096x128 .f32
  a1 : Vec F S1x4096x256 .f32

/-- What one trip makes of the running values, from its chunk of keys `kk` and of values `vv`. -/
def Run.next (qa qb : FVec F S4096x128 .bf16) (kk vv : Vec F S1x512x128 .bf16) (s : Run F) : Run F where
  m0 := k0_pay8 qa kk s.m0
  a0 := k0_pay7 qa kk vv s.m0 s.a0
  m1 := k0_pay27 qb (k0_pay2 kk) s.m1
  a1 := k0_pay26 qb (k0_pay2 kk) (k0_pay3 vv) s.m1 s.a1

/-- The running values after the first `n` trips. -/
def Run.after (qa qb : FVec F S4096x128 .bf16) (KK VV : Fin k0_t1_loop.trips → Vec F S1x512x128 .bf16) (s : Run F) : ℕ → Run F
  | 0 => s
  | n + 1 => if h : n < k0_t1_loop.trips then (Run.after qa qb KK VV s n).next qa qb (KK ⟨n, h⟩) (VV ⟨n, h⟩) else Run.after qa qb KK VV s n

/-- Two scratch contents hold the running values `s`. -/
structure Holds (v11 : View sig .tc .vmem S2x4096x128 .f32) (f11 : v11.ty.Contents (Elt F)) (v12 : View sig .tc .vmem S2x4096x256 .f32)
    (f12 : v12.ty.Contents (Elt F)) (s : Run F) : Prop where
  m0 : v11.readAt (Elt F) mr0.toLoadRect f11 = s.m0
  m1 : v11.readAt (Elt F) mr1.toLoadRect f11 = s.m1
  a0 : v12.readAt (Elt F) ar0.toLoadRect f12 = s.a0
  a1 : v12.readAt (Elt F) ar1.toLoadRect f12 = s.a1

/-- Map 0's part of the maxima's memory meets map 1's nowhere. -/
theorem mr0_off_mr1 (x : mr0.shape.Idx) : mr0.emb x ∉ mr1.set := by
  rw [Rect.mem_set_unit]
  intro h
  have h0 := (h 0).1
  have hx : (x 0).val < 1 := (x 0).isLt
  have he : (mr0.emb x 0).val = 0 + 1 * (x 0).val := rfl
  have h1 : (1 : ℕ) ≤ (mr0.emb x 0).val := h0
  omega

/-- Map 0's part of the accumulators' memory meets map 1's nowhere. -/
theorem ar0_off_ar1 (x : ar0.shape.Idx) : ar0.emb x ∉ ar1.set := by
  rw [Rect.mem_set_unit]
  intro h
  have h0 := (h 0).1
  have hx : (x 0).val < 1 := (x 0).isLt
  have he : (ar0.emb x 0).val = 0 + 1 * (x 0).val := rfl
  have h1 : (1 : ℕ) ≤ (ar0.emb x 0).val := h0
  omega

/-- Two stores at disjoint parts of a memory: the earlier one is still read at its own part. -/
theorem readAt_two_old {s : Shape} {e : EltTy} (v : View sig .tc .vmem s e) (f : v.ty.Contents (Elt F)) (r q : Rect s) (w : r.shape.Idx → Elt F e)
    (u : q.shape.Idx → Elt F e) (L : List (View.Piece (Elt F) s e)) (hd : ∀ x, r.emb x ∉ q.set) :
    v.readAt (Elt F) r.toLoadRect (v.writes (Elt F) f (⟨q, u⟩ :: ⟨r, w⟩ :: L)) = w := by
  funext x
  have h1 : v.read (Elt F) (v.writes (Elt F) f (⟨q, u⟩ :: ⟨r, w⟩ :: L)) (r.emb x) = w x := by
    rw [View.writes_cons, View.read_slice_write_of_not_mem q _ _ _ (by rw [Rect.map_emb_univ]; exact hd x), View.read_writes_cons_emb]
  exact h1

/-- Two stores at parts of a memory: the later one is read at its own part. -/
theorem readAt_two_new {s : Shape} {e : EltTy} (v : View sig .tc .vmem s e) (f : v.ty.Contents (Elt F)) (q : Rect s)
    (u : q.shape.Idx → Elt F e) (L : List (View.Piece (Elt F) s e)) :
    v.readAt (Elt F) q.toLoadRect (v.writes (Elt F) f (⟨q, u⟩ :: L)) = u :=
  funext fun x => View.read_writes_cons_emb v f q u L x

/-- One trip's stores, from the contents it starts at: each map's maximum and accumulator, computed from what is read at
    that map's own part of the two memories. -/
theorem trip_pieces (c : Dev nD) (i : grid0.Coords) (arg3 : Memref sig .tc .smem S1x1 .f32) (harg3 : arg3.IsWhole) (arg4 : Memref sig .tc .vmem S1x4096x128 .f32) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x4096x128 .f32) (harg11 : arg11.IsWhole) (arg12 : Memref sig .tc .vmem S2x4096x256 .f32) (harg12 : arg12.IsWhole) (qa qb : FVec F S4096x128 .bf16) (c0 c1 : BitVec 32) (X5 : BufTy.Contents (Elt F) arg5.view.ty) (X6 : BufTy.Contents (Elt F) arg6.view.ty) (k : Fin k0_t1_loop.trips)
    (f11 : BufTy.Contents (Elt F) arg11.view.ty) (f12 : BufTy.Contents (Elt F) arg12.view.ty) (s : Run F) (kk vv : Vec F S1x512x128 .bf16)
    (hs : Holds arg11.view f11 arg12.view f12 s)
    (hk : arg5.view.readAt (Elt F) (Rect.unit (s := S1x4096x128) (k0_off1 k) S1x512x128.size (k0_off1_inb k)).toLoadRect X5 = kk)
    (hv : arg6.view.readAt (Elt F) (Rect.unit (s := S1x4096x128) (k0_off1 k) S1x512x128.size (k0_off1_inb k)).toLoadRect X6 = vv) :
    tripL_k0_t1 (F := F) Variants.none c none i arg3 harg3 arg4 harg4 arg5 harg5 arg6 harg6 arg7 harg7 arg8 harg8 arg9 harg9 arg10 harg10 arg11 harg11 arg12 harg12 qa qb c0 c1 X5 X6 k f11 f12
      = ([⟨mr1, (s.next qa qb kk vv).m1⟩, ⟨mr0, (s.next qa qb kk vv).m0⟩], [⟨ar1, (s.next qa qb kk vv).a1⟩, ⟨ar0, (s.next qa qb kk vv).a0⟩]) := by
  obtain ⟨h0, h1, h2, h3⟩ := hs
  subst hk hv
  unfold tripL_k0_t1 trip_k0_t1
  dsimp only
  sl_unfold_words
  unfold Run.next
  dsimp only
  rw [← h0, ← h1, ← h2, ← h3]
  simp only [k0_pay8, k0_pay27, k0_pay7, k0_pay26, k0_pay2, k0_pay3, k0_pay4, k0_pay5, k0_pay6, k0_pay23, k0_pay24, k0_pay25]

/-- The scratch memories after the first `n` trips hold the recursion's values. -/
theorem holds_after (c : Dev nD) (i : grid0.Coords) (arg3 : Memref sig .tc .smem S1x1 .f32) (harg3 : arg3.IsWhole) (arg4 : Memref sig .tc .vmem S1x4096x128 .f32) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x4096x128 .f32) (harg11 : arg11.IsWhole) (arg12 : Memref sig .tc .vmem S2x4096x256 .f32) (harg12 : arg12.IsWhole) (qa qb : FVec F S4096x128 .bf16) (c0 c1 : BitVec 32) (X5 : BufTy.Contents (Elt F) arg5.view.ty) (X6 : BufTy.Contents (Elt F) arg6.view.ty)
    (G11 : BufTy.Contents (Elt F) arg11.view.ty) (G12 : BufTy.Contents (Elt F) arg12.view.ty) (s : Run F) (KK VV : Fin k0_t1_loop.trips → Vec F S1x512x128 .bf16)
    (hs : Holds arg11.view G11 arg12.view G12 s)
    (hk : ∀ k, arg5.view.readAt (Elt F) (Rect.unit (s := S1x4096x128) (k0_off1 k) S1x512x128.size (k0_off1_inb k)).toLoadRect X5 = KK k)
    (hv : ∀ k, arg6.view.readAt (Elt F) (Rect.unit (s := S1x4096x128) (k0_off1 k) S1x512x128.size (k0_off1_inb k)).toLoadRect X6 = VV k) (n : ℕ) (hn : n ≤ k0_t1_loop.trips) :
    Holds arg11.view (arg11.view.writes (Elt F) G11 (pb_k0_t1 (F := F) Variants.none c none i arg3 harg3 arg4 harg4 arg5 harg5 arg6 harg6 arg7 harg7 arg8 harg8 arg9 harg9 arg10 harg10 arg11 harg11 arg12 harg12 qa qb c0 c1 X5 X6 G11 G12 n).1)
      arg12.view (arg12.view.writes (Elt F) G12 (pb_k0_t1 (F := F) Variants.none c none i arg3 harg3 arg4 harg4 arg5 harg5 arg6 harg6 arg7 harg7 arg8 harg8 arg9 harg9 arg10 harg10 arg11 harg11 arg12 harg12 qa qb c0 c1 X5 X6 G11 G12 n).2) (s.after qa qb KK VV n) := by
  induction n with
  | zero => exact hs
  | succ n ih =>
    have h := pb_k0_t1_succ (F := F) Variants.none c none i arg3 harg3 arg4 harg4 arg5 harg5 arg6 harg6 arg7 harg7 arg8 harg8 arg9 harg9 arg10 harg10 arg11 harg11 arg12 harg12 qa qb c0 c1 X5 X6 G11 G12 ⟨n, hn⟩
    rw [trip_pieces c i arg3 harg3 arg4 harg4 arg5 harg5 arg6 harg6 arg7 harg7 arg8 harg8 arg9 harg9 arg10 harg10 arg11 harg11 arg12 harg12 qa qb c0 c1 X5 X6 ⟨n, hn⟩ _ _ _ _ _ (ih (Nat.le_of_lt hn)) (hk _) (hv _)] at h
    have hr : s.after qa qb KK VV (n + 1) = (s.after qa qb KK VV n).next qa qb (KK ⟨n, hn⟩) (VV ⟨n, hn⟩) := by
      rw [Run.after]; exact dif_pos hn
    rw [hr]
    simp only at h
    rw [h]
    refine ⟨?_, ?_, ?_, ?_⟩
    · exact readAt_two_old arg11.view G11 mr0 mr1 _ _ _ mr0_off_mr1
    · exact readAt_two_new arg11.view G11 mr1 _ _
    · exact readAt_two_old arg12.view G12 ar0 ar1 _ _ _ ar0_off_ar1
    · exact readAt_two_new arg12.view G12 ar1 _ _

end Cert.KernelIdeal.Own
-- ==== Proof.Out.lean ====
module

public import proofs.«01_k».proof.Proof.Trip
public import Idealize.ShloMosaic.Lib.Pointwise

@[expose] public section

/-!
The block the attention body leaves in its output buffer, as a function of the blocks it read: the final stage applied to
the accumulators the recursion of `Trip` ends with.
-/

set_option maxRecDepth 16384

noncomputable section
namespace Cert.KernelIdeal.Own

open Cert.KernelIdeal Cert.KernelIdeal.Gen
open Idealize.ShloMosaic Idealize.ShloMosaic.TcCoe Idealize.ShloMosaic.Tactic
open Idealize.SL Idealize.SL.Sem

variable {F : FTy → Type} [FloatOps F] [Named F]

/-- Chunk `k` of a block of 4096 rows: the 512 rows from row 512·k. -/
def chunk (X : Vec F S1x4096x128 .bf16) (k : Fin k0_t1_loop.trips) : Vec F S1x512x128 .bf16 :=
  View.ld X (Rect.unit (s := S1x4096x128) (k0_off1 k) S1x512x128.size (k0_off1_inb k))

/-- The running values after the context's 256 keys, from the block's queries and the context's keys and values. -/
def Run.start (q : Vec F S1x4096x128 .f32) (kc vc : Vec F S1x256x128 .bf16) : Run F where
  m0 := k0_pay18 (k0_pay16 q kc)
  a0 := k0_pay17 q kc vc
  m1 := k0_pay22 (k0_pay12 q) (k0_pay13 kc)
  a1 := k0_pay21 (k0_pay12 q) (k0_pay13 kc) (k0_pay14 vc)

/-- The first map's maximum before the loop. -/
theorem Run.start_m0 (q : Vec F S1x4096x128 .f32) (kc vc : Vec F S1x256x128 .bf16) : (Run.start q kc vc).m0 = k0_pay18 (k0_pay16 q kc) := by
  dsimp only [Run.start]
/-- The first map's accumulator before the loop. -/
theorem Run.start_a0 (q : Vec F S1x4096x128 .f32) (kc vc : Vec F S1x256x128 .bf16) : (Run.start q kc vc).a0 = k0_pay17 q kc vc := by
  dsimp only [Run.start]
/-- The second map's maximum before the loop. -/
theorem Run.start_m1 (q : Vec F S1x4096x128 .f32) (kc vc : Vec F S1x256x128 .bf16) : (Run.start q kc vc).m1 = k0_pay22 (k0_pay12 q) (k0_pay13 kc) := by
  dsimp only [Run.start]
/-- The second map's accumulator before the loop. -/
theorem Run.start_a1 (q : Vec F S1x4096x128 .f32) (kc vc : Vec F S1x256x128 .bf16) :
    (Run.start q kc vc).a1 = k0_pay21 (k0_pay12 q) (k0_pay13 kc) (k0_pay14 vc) := by
  dsimp only [Run.start]

/-- The running values at the end: after the context and all latent chunks. -/
def Run.final (q : Vec F S1x4096x128 .f32) (k v : Vec F S1x4096x128 .bf16) (kc vc : Vec F S1x256x128 .bf16) : Run F :=
  (Run.start q kc vc).after (k0_pay11 q) (k0_pay12 q) (chunk k) (chunk v) k0_t1_loop.trips

/-- Zero offsets on two axes. -/
theorem hz2 : (![0, 0] : Fin 2 → Nat) = fun _ => 0 := funext fun a => by fin_cases a <;> rfl
/-- Zero offsets on three axes. -/
theorem hz3 : (![0, 0, 0] : Fin 3 → Nat) = fun _ => 0 := funext fun a => by fin_cases a <;> rfl

/-- The output block: the last stage of the body at the final accumulators. -/
theorem out_eq (c : Dev nD) (i : grid0.Coords) (arg3 : Memref sig .tc .smem S1x1 .f32) (harg3 : arg3.IsWhole) (arg4 : Memref sig .tc .vmem S1x4096x128 .f32) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S1x128 .f32) (harg9 : arg9.IsWhole) (arg10 : Memref sig .tc .vmem S1x4096x128 .bf16) (harg10 : arg10.IsWhole) (arg11 : Memref sig .tc .vmem S2x4096x128 .f32) (harg11 : arg11.IsWhole) (arg12 : Memref sig .tc .vmem S2x4096x256 .f32) (harg12 : arg12.IsWhole) (x0 : Vec F S1x1 .f32) (x1 : Vec F S1x4096x128 .f32) (x2 : Vec F S1x4096x128 .bf16) (x3 : Vec F S1x4096x128 .bf16) (x4 : Vec F S1x256x128 .bf16) (x5 : Vec F S1x256x128 .bf16) (x6 : Vec F S1x128 .f32) :
    out0_A_7 c i arg3 harg3 arg4 harg4 arg5 harg5 arg6 harg6 arg7 harg7 arg8 harg8 arg9 harg9 arg10 harg10 arg11 harg11 arg12 harg12 x0 x1 x2 x3 x4 x5 x6
      = k0_pay1 (x0 (ix2 0 0)) (Run.final x1 x2 x3 x4 x5).a0 (Run.final x1 x2 x3 x4 x5).a1 x6 := by
  have hH := holds_after (F := F) c i arg3 harg3 arg4 harg4 arg5 harg5 arg6 harg6 arg7 harg7 arg8 harg8 arg9 harg9 arg10 harg10 arg11 harg11 arg12 harg12 (k0_pay11 x1) (k0_pay12 x1) 0#32 1#32 (harg5.unread x2) (harg6.unread x3)
    (arg11.view.writes (Elt F) arg11.view.junk [⟨mr1, k0_pay22 (k0_pay12 x1) (k0_pay13 x4)⟩, ⟨mr0, k0_pay18 (k0_pay16 x1 x4)⟩])
    (arg12.view.writes (Elt F) arg12.view.junk [⟨ar1, k0_pay21 (k0_pay12 x1) (k0_pay13 x4) (k0_pay14 x5)⟩, ⟨ar0, k0_pay17 x1 x4 x5⟩])
    (Run.start x1 x4 x5) (chunk x2) (chunk x3)
    ⟨by rw [Run.start_m0]; exact readAt_two_old arg11.view _ mr0 mr1 _ _ _ mr0_off_mr1, by rw [Run.start_m1]; exact readAt_two_new arg11.view _ mr1 _ _,
      by rw [Run.start_a0]; exact readAt_two_old arg12.view _ ar0 ar1 _ _ _ ar0_off_ar1, by rw [Run.start_a1]; exact readAt_two_new arg12.view _ ar1 _ _⟩
    (fun k => by rw [View.readAt_eq_ld, harg5.read_unread]; rfl)
    (fun k => by rw [View.readAt_eq_ld, harg6.read_unread]; rfl) k0_t1_loop.trips le_rfl
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_words
  rw [View.canon_unit_zero hz3]
  have e1 : ∀ inb, View.ld x1 (Rect.unit (s := S1x4096x128) ![0, 0, 0] ![1, 4096, 128] inb) = x1 := fun inb => View.ld_unit_zero hz3 inb x1
  have e4 : ∀ inb, View.ld x4 (Rect.unit (s := S1x256x128) ![0, 0, 0] ![1, 256, 128] inb) = x4 := fun inb => View.ld_unit_zero hz3 inb x4
  have e5 : ∀ inb, View.ld x5 (Rect.unit (s := S1x256x128) ![0, 0, 0] ![1, 256, 128] inb) = x5 := fun inb => View.ld_unit_zero hz3 inb x5
  have e6 : ∀ inb, View.ld x6 (Rect.unit (s := S1x128) ![0, 0] ![1, 128] inb) = x6 := fun inb => View.ld_unit_zero hz2 inb x6
  simp only [View.readAt_eq_ld, harg3.read_unread, harg4.read_unread, harg7.read_unread, harg8.read_unread, harg9.read_unread, e1, e4, e5, e6]
  have key : ∀ (w : Elt F .f32) (a b : Vec F S1x4096x256 .f32), w = x0 (ix2 0 0) → a = (Run.final x1 x2 x3 x4 x5).a0 → b = (Run.final x1 x2 x3 x4 x5).a1 →
      k0_pay1 w a b x6 = k0_pay1 (x0 (ix2 0 0)) (Run.final x1 x2 x3 x4 x5).a0 (Run.final x1 x2 x3 x4 x5).a1 x6 := by
    rintro w a b rfl rfl rfl; rfl
  have ht : Scf.trips (0#32) (Scalar.addi 0#32 8#32) 1#32 = k0_t1_loop.trips := rfl
  rw [ht]
  refine key _ _ _ ?_ ?_ ?_
  · refine congrArg x0 (funext fun a => Fin.ext ?_)
    fin_cases a <;> rfl
  · unfold View.readCov
    rw [View.writes_append]
    exact hH.a0
  · unfold View.readCov
    rw [View.writes_append]
    exact hH.a1

end Cert.KernelIdeal.Own
-- ==== Proof.Softmax.lean ====
module

public import Idealize.ShloMosaic.PureOps.Ideal

@[expose] public section

/-!
Softmax on the extended reals, without any program: the running (online) form of a weighted softmax sum, the change from
the base-2 exponential to the natural one, and the difference of two softmax averages under a root-mean-square scaling.

The scores may be any extended reals. A weight `exp2 (s − m)` with `s ≤ m` is then always a finite number between 0 and 1,
also where a score or the maximum is infinite, and the rescaling of the running form holds in all those cases too.
-/

namespace Cert.Soft

open Idealize.ShloMosaic

/-- A weight is finite and not negative. -/
theorem weight_real {s m : EReal} (h : s ≤ m) : ∃ r : ℝ, 0 ≤ r ∧ Ideal.exp2 (s - m) = (r : EReal) := by
  induction s with
  | bot => exact ⟨0, le_rfl, by simp [sub_eq_add_neg]⟩
  | top =>
    obtain rfl : m = ⊤ := top_le_iff.mp h
    exact ⟨0, le_rfl, by simp [sub_eq_add_neg]⟩
  | coe x =>
    induction m with
    | bot => exact absurd h (by simp)
    | top => exact ⟨0, le_rfl, by simp [sub_eq_add_neg]⟩
    | coe y => exact ⟨Real.rpow 2 (x - y), Real.rpow_nonneg (by norm_num) _, by rw [← EReal.coe_sub, Ideal.exp2_coe]⟩

/-- Rescaling a weight from an earlier maximum to a later one. -/
theorem weight_rescale {s m m' : EReal} (h : s ≤ m) (h' : m ≤ m') :
    Ideal.exp2 (m - m') * Ideal.exp2 (s - m) = Ideal.exp2 (s - m') := by
  induction m with
  | bot =>
    obtain rfl : s = ⊥ := le_bot_iff.mp h
    simp [sub_eq_add_neg]
  | top =>
    obtain rfl : m' = ⊤ := top_le_iff.mp h'
    simp [sub_eq_add_neg]
  | coe y =>
    induction s with
    | bot => simp [sub_eq_add_neg]
    | top => exact absurd h (by simp)
    | coe x =>
      induction m' with
      | bot => exact absurd h' (by simp)
      | top => simp [sub_eq_add_neg]
      | coe z =>
        rw [← EReal.coe_sub, ← EReal.coe_sub, ← EReal.coe_sub, Ideal.exp2_coe, Ideal.exp2_coe, Ideal.exp2_coe, ← EReal.coe_mul]
        congr 1
        have := (Real.rpow_add (x := 2) (by norm_num) (y - z) (x - y)).symm
        have e : y - z + (x - y) = x - z := by ring
        rw [e] at this
        exact this

/-- A finite sum of products of finite numbers, as one finite number. -/
theorem sum_coe {ι : Type} (S : Finset ι) (f : ι → ℝ) : ∑ k ∈ S, (f k : EReal) = ((∑ k ∈ S, f k : ℝ) : EReal) := by
  classical
  induction S using Finset.induction_on with
  | empty => simp
  | insert a S ha ih => rw [Finset.sum_insert ha, Finset.sum_insert ha, ih, EReal.coe_add]

/-- `m` is the maximum of the scores over `S`, and `a` the sum of the values weighted by `exp2 (score − m)`. -/
structure Soft {ι : Type} (S : Finset ι) (s : ι → EReal) (w : ι → ℝ) (m a : EReal) : Prop where
  max : m = S.sup s
  acc : a = ∑ k ∈ S, Ideal.exp2 (s k - m) * (w k : EReal)

/-- One step of the running softmax: more keys `T`, the maximum raised to theirs, the accumulator rescaled. -/
theorem Soft.step {ι : Type} [DecidableEq ι] {S T : Finset ι} {s : ι → EReal} {w : ι → ℝ} {m a m' a' : EReal} (h : Soft S s w m a) (hd : Disjoint S T)
    (hm : m' = Max.max m (T.sup s)) (ha : a' = Ideal.exp2 (m - m') * a + ∑ k ∈ T, Ideal.exp2 (s k - m') * (w k : EReal)) :
    Soft (S ∪ T) s w m' a' := by
  obtain ⟨h1, h2⟩ := h
  refine ⟨by rw [hm, h1, Finset.sup_union], ?_⟩
  rw [ha, Finset.sum_union hd]
  congr 1
  have hle : ∀ k ∈ S, s k ≤ m := fun k hk => h1 ▸ Finset.le_sup hk
  have hmm : m ≤ m' := hm ▸ le_max_left _ _
  obtain ⟨c, -, hc⟩ := weight_real hmm
  have he : ∀ k ∈ S, Ideal.exp2 (s k - m) * (w k : EReal) = (((Ideal.exp2 (s k - m)).toReal * w k : ℝ) : EReal) := fun k hk => by
    obtain ⟨r, -, hr⟩ := weight_real (hle k hk)
    rw [hr, EReal.toReal_coe, EReal.coe_mul]
  rw [h2, Finset.sum_congr rfl he, sum_coe, hc, ← EReal.coe_mul, Finset.mul_sum, ← sum_coe]
  refine Finset.sum_congr rfl fun k hk => ?_
  obtain ⟨r, -, hr⟩ := weight_real (hle k hk)
  rw [← weight_rescale (hle k hk) hmm, hc, hr, EReal.toReal_coe, ← EReal.coe_mul, ← EReal.coe_mul]
  congr 1
  ring

/-- The first keys: a softmax sum with its own maximum. -/
theorem Soft.first {ι : Type} {S : Finset ι} {s : ι → EReal} {w : ι → ℝ} {m a : EReal}
    (hm : m = S.sup s) (ha : a = ∑ k ∈ S, Ideal.exp2 (s k - m) * (w k : EReal)) : Soft S s w m a := ⟨hm, ha⟩

/-- A factor that is finite and not negative goes through a finite sum of extended reals. -/
theorem mul_sum_of_nonneg {ι : Type} (S : Finset ι) (c : ℝ) (hc : 0 ≤ c) (f : ι → EReal) :
    (c : EReal) * ∑ k ∈ S, f k = ∑ k ∈ S, (c : EReal) * f k := by
  classical
  induction S using Finset.induction_on with
  | empty => simp
  | insert a S ha ih =>
    rw [Finset.sum_insert ha, Finset.sum_insert ha, ← ih]
    exact EReal.left_distrib_of_nonneg_of_ne_top (EReal.coe_nonneg.mpr hc) (EReal.coe_ne_top c) _ _

/-- The maximum of scores scaled by a positive number is the scaled maximum. -/
theorem sup_scale {ι : Type} (S : Finset ι) (c : ℝ) (hc : 0 < c) (t : ι → EReal) :
    S.sup (fun k => (c : EReal) * t k) = (c : EReal) * S.sup t := by
  have hmono : Monotone fun x : EReal => (c : EReal) * x := fun x y h =>
    mul_le_mul_of_nonneg_left h (EReal.coe_nonneg.mpr hc.le)
  classical
  induction S using Finset.induction_on with
  | empty => simp [EReal.coe_mul_bot_of_pos hc]
  | insert a S ha ih => rw [Finset.sup_insert, Finset.sup_insert, ih]; exact (hmono.map_sup _ _).symm

/-- `2^(x / log 2) = e^x`, at a difference of two scores. -/
theorem exp2_scale (t M : EReal) : Ideal.exp2 (((Real.log 2)⁻¹ : ℝ) * t - ((Real.log 2)⁻¹ : ℝ) * M) = Ideal.exp (t - M) := by
  have hl : 0 < Real.log 2 := Real.log_pos (by norm_num)
  have hc : 0 < (Real.log 2)⁻¹ := inv_pos.mpr hl
  induction t with
  | bot => simp [sub_eq_add_neg, EReal.coe_mul_bot_of_pos hc]
  | top =>
    rw [EReal.coe_mul_top_of_pos hc]
    induction M with
    | bot => rw [EReal.coe_mul_bot_of_pos hc]; simp [sub_eq_add_neg]
    | top => rw [EReal.coe_mul_top_of_pos hc]; simp [sub_eq_add_neg]
    | coe y => rw [← EReal.coe_mul, EReal.top_sub_coe, EReal.top_sub_coe]; rfl
  | coe x =>
    induction M with
    | bot => rw [EReal.coe_mul_bot_of_pos hc, ← EReal.coe_mul, EReal.coe_sub_bot, EReal.coe_sub_bot]; rfl
    | top => rw [EReal.coe_mul_top_of_pos hc]; simp [sub_eq_add_neg]
    | coe y =>
      rw [← EReal.coe_mul, ← EReal.coe_mul, ← EReal.coe_sub, ← EReal.coe_sub, Ideal.exp2_coe, Ideal.exp_coe]
      congr 1
      refine (Real.rpow_def_of_pos (by norm_num : (0 : ℝ) < 2) _).trans ?_
      congr 1
      field_simp

/-- Zero or infinite. -/
def Odd (x : EReal) : Prop := x = 0 ∨ x = ⊤ ∨ x = ⊥

/-- Sums of such numbers are such numbers. -/
theorem Odd.add {x y : EReal} (hx : Odd x) (hy : Odd y) : Odd (x + y) := by
  rcases hx with rfl | rfl | rfl <;> rcases hy with rfl | rfl | rfl <;> simp [Odd]

/-- So are finite sums. -/
theorem Odd.sum {ι : Type} (S : Finset ι) (f : ι → EReal) (h : ∀ k, Odd (f k)) : Odd (∑ k ∈ S, f k) := by
  classical
  induction S using Finset.induction_on with
  | empty => exact Or.inl (by simp)
  | insert a S ha ih => rw [Finset.sum_insert ha]; exact (h a).add ih

/-- And products with a real number. -/
theorem Odd.mul_real {x : EReal} (hx : Odd x) (r : ℝ) : Odd ((r : EReal) * x) := by
  rcases hx with rfl | rfl | rfl
  · exact Or.inl (by simp)
  · rcases lt_trichotomy r 0 with h | rfl | h
    · exact Or.inr (Or.inr (EReal.coe_mul_top_of_neg h))
    · exact Or.inl (by simp)
    · exact Or.inr (Or.inl (EReal.coe_mul_top_of_pos h))
  · rcases lt_trichotomy r 0 with h | rfl | h
    · exact Or.inr (Or.inl (EReal.coe_mul_bot_of_neg h))
    · exact Or.inl (by simp)
    · exact Or.inr (Or.inr (EReal.coe_mul_bot_of_pos h))

/-- A row of zeros and infinities is scaled to zero by its root mean square. -/
theorem odd_scaled {n : ℕ} (o : Fin n → EReal) (h : ∀ i, Odd (o i)) (d eps : ℝ) (hd : 0 < d) (he : 0 < eps) (j : Fin n) :
    o j * Ideal.rsqrt (Ideal.div (∑ i, o i * o i) (d : EReal) + (eps : EReal)) = 0 := by
  by_cases hz : ∀ i, o i = 0
  · rw [hz j, zero_mul]
  · obtain ⟨i, hi⟩ := not_forall.mp hz
    have hsq : ∀ k, 0 ≤ o k * o k := fun k => by
      rcases h k with e | e | e <;> rw [e] <;> simp
    have ht : o i * o i = ⊤ := by
      rcases h i with e | e | e
      · exact absurd e hi
      · rw [e]; rfl
      · rw [e]; rfl
    have hs : ∑ k, o k * o k = ⊤ := top_le_iff.mp (ht ▸ Finset.single_le_sum (f := fun k => o k * o k) (fun k _ => hsq k) (Finset.mem_univ i))
    rw [hs, Ideal.div_coe hd.ne', EReal.top_mul_coe_of_pos (by positivity), EReal.top_add_coe, Ideal.rsqrt_top, mul_zero]

/-- A quotient of reals by a positive real is the real quotient. -/
theorem div_pos_real (x l : ℝ) (hl : 0 < l) : Ideal.div (x : EReal) (l : EReal) = ((x / l : ℝ) : EReal) := by
  rw [Ideal.div_coe hl.ne', ← EReal.coe_mul]; congr 1; ring

/-- Zero over zero is minus infinity here. -/
theorem div_zero_zero : Ideal.div (0 : EReal) 0 = ⊥ := by simp [Ideal.div]

/-- The two ways to take a difference of two softmax averages — averages first, or differences of the weights first — agree,
    or (where a map has no weight at all) both rows consist of zeros and infinities only. -/
theorem diff_agree {n p : ℕ} (e0 e1 : Fin n → ℝ) (h0 : ∀ k, 0 ≤ e0 k) (h1 : ∀ k, 0 ≤ e1 k) (v : Fin n → Fin p → ℝ) (lam : ℝ) :
    let l0 : EReal := ∑ k, (e0 k : EReal)
    let l1 : EReal := ∑ k, (e1 k : EReal)
    let K : Fin p → EReal := fun j => Ideal.div (∑ k, (e0 k : EReal) * (v k j : EReal)) l0 - (lam : EReal) * Ideal.div (∑ k, (e1 k : EReal) * (v k j : EReal)) l1
    let R : Fin p → EReal := fun j => ∑ k, (v k j : EReal) * (Ideal.div (e0 k : EReal) l0 - (lam : EReal) * Ideal.div (e1 k : EReal) l1)
    (∀ j, K j = R j) ∨ ((∀ j, Odd (K j)) ∧ ∀ j, Odd (R j)) := by
  intro l0 l1 K R
  have hl0 : l0 = ((∑ k, e0 k : ℝ) : EReal) := sum_coe _ _
  have hl1 : l1 = ((∑ k, e1 k : ℝ) : EReal) := sum_coe _ _
  have hA : ∀ (e : Fin n → ℝ) (j : Fin p), ∑ k, (e k : EReal) * (v k j : EReal) = ((∑ k, e k * v k j : ℝ) : EReal) := fun e j => by
    rw [← sum_coe]; exact Finset.sum_congr rfl fun k _ => (EReal.coe_mul _ _).symm
  have hzero : ∀ (e : Fin n → ℝ), (∀ k, 0 ≤ e k) → (∑ k, e k) = 0 → ∀ k, e k = 0 := fun e he hs k =>
    (Finset.sum_eq_zero_iff_of_nonneg fun k _ => he k).mp hs k (Finset.mem_univ k)
  rcases (Finset.sum_nonneg fun k (_ : k ∈ Finset.univ) => h0 k).eq_or_lt with hs0 | hs0
  · -- the first map has no weight
    have z := hzero e0 h0 hs0.symm
    have hl : l0 = 0 := by rw [hl0, ← hs0]; rfl
    right
    refine ⟨fun j => ?_, fun j => Odd.sum _ _ fun k => Odd.mul_real ?_ _⟩
    · right; right
      show Ideal.div (∑ k, (e0 k : EReal) * (v k j : EReal)) l0 - _ = ⊥
      rw [hl, Finset.sum_eq_zero (fun k _ => by rw [z k]; simp), div_zero_zero]
      simp [sub_eq_add_neg]
    · right; right
      rw [hl, z k, EReal.coe_zero, div_zero_zero]
      simp [sub_eq_add_neg]
  · rcases (Finset.sum_nonneg fun k (_ : k ∈ Finset.univ) => h1 k).eq_or_lt with hs1 | hs1
    · -- the second map has no weight
      have z := hzero e1 h1 hs1.symm
      have hl : l1 = 0 := by rw [hl1, ← hs1]; rfl
      have hK : ∀ j, K j = ((((∑ k, e0 k * v k j) / ∑ k, e0 k : ℝ)) : EReal) - (lam : EReal) * ⊥ := fun j => by
        show Ideal.div (∑ k, (e0 k : EReal) * (v k j : EReal)) l0 - (lam : EReal) * Ideal.div (∑ k, (e1 k : EReal) * (v k j : EReal)) l1 = _
        have hs : ∑ k, (e1 k : EReal) * (v k j : EReal) = 0 := Finset.sum_eq_zero fun k _ => by rw [z k]; simp
        rw [hs, hA, hl0, div_pos_real _ _ hs0, hl, div_zero_zero]
      have hR : ∀ j, R j = ∑ k, (v k j : EReal) * (((e0 k / ∑ k, e0 k : ℝ) : EReal) - (lam : EReal) * ⊥) := fun j => by
        refine Finset.sum_congr rfl fun k _ => ?_
        rw [hl0, div_pos_real _ _ hs0, hl, z k, EReal.coe_zero, div_zero_zero]
      rcases lt_trichotomy lam 0 with hlam | rfl | hlam
      · right
        rw [EReal.coe_mul_bot_of_neg hlam] at hK hR
        refine ⟨fun j => ?_, fun j => ?_⟩
        · rw [hK]; right; right; simp [sub_eq_add_neg]
        · rw [hR]; exact Odd.sum _ _ fun k => Odd.mul_real (Or.inr (Or.inr (by simp [sub_eq_add_neg]))) _
      · left
        intro j
        rw [hK, hR]
        simp only [EReal.coe_zero, zero_mul, sub_zero]
        rw [Finset.sum_div, ← sum_coe]
        refine Finset.sum_congr rfl fun k _ => ?_
        rw [← EReal.coe_mul]; congr 1; ring
      · right
        rw [EReal.coe_mul_bot_of_pos hlam] at hK hR
        refine ⟨fun j => ?_, fun j => ?_⟩
        · rw [hK, EReal.coe_sub_bot]; right; left; rfl
        · rw [hR]; exact Odd.sum _ _ fun k => Odd.mul_real (Or.inr (Or.inl (EReal.coe_sub_bot _))) _
    · left
      intro j
      show Ideal.div (∑ k, (e0 k : EReal) * (v k j : EReal)) l0 - (lam : EReal) * Ideal.div (∑ k, (e1 k : EReal) * (v k j : EReal)) l1
        = ∑ k, (v k j : EReal) * (Ideal.div (e0 k : EReal) l0 - (lam : EReal) * Ideal.div (e1 k : EReal) l1)
      rw [hA, hA, hl0, hl1, div_pos_real _ _ hs0, div_pos_real _ _ hs1, ← EReal.coe_mul, ← EReal.coe_sub, Finset.sum_div, Finset.sum_div,
        Finset.mul_sum, ← Finset.sum_sub_distrib, ← sum_coe]
      refine Finset.sum_congr rfl fun k _ => ?_
      rw [div_pos_real _ _ hs0, div_pos_real _ _ hs1, ← EReal.coe_mul, ← EReal.coe_sub, ← EReal.coe_mul]
      congr 1; ring

end Cert.Soft
-- ==== Proof.Steps.lean ====
module

public import proofs.«01_k».proof.Proof.Gen.KernelIdeal.Skeleton
public import proofs.«01_k».proof.Proof.Softmax
public import Idealize.ShloMosaic.Lib.Pointwise

@[expose] public section

/-!
The body's stores read at one row, over the extended reals: the first (context) keys start a softmax sum, and one trip
of the loop is one step of the running softmax over 512 more keys. Both maps go through the same statements.
-/

set_option maxRecDepth 16384

noncomputable section
namespace Cert.KernelIdeal.Own

open Cert.KernelIdeal Cert.KernelIdeal.Gen Cert.Soft
open Idealize.ShloMosaic Idealize.ShloMosaic.TcCoe Idealize.ShloMosaic.Tactic

/-- The word of minus infinity. -/
theorem neg_inf : Ideal.ofBits .f32 0xFF800000#32 = ⊥ := by simp [Ideal.ofBits, Ideal.ieee]

/-- A maximum folded from minus infinity is the supremum. -/
theorem fold_sup {n : ℕ} (f : Fin n → EReal) : Finset.fold max (Ideal.ofBits FTy.f32 0xFF800000#32) f Finset.univ = Finset.univ.sup f := by
  rw [neg_inf]; rfl

/-- A trip's score of the first map. -/
theorem pay4_at (qa : FVec Ideal S4096x128 .bf16) (kk : Vec Ideal S1x512x128 .bf16) (r : Fin 4096) (c : Fin 512) :
    k0_pay4 qa kk (ix2 r c) = ∑ l : Fin 128, qa (ix2 r l) * kk (ix3 0 c l) := by
  pointwise [k0_pay4, k0_pay2]

/-- The first map's score against a context key. -/
theorem pay19_at (qa : FVec Ideal S4096x128 .bf16) (kc : Vec Ideal S1x256x128 .bf16) (r : Fin 4096) (c : Fin 256) :
    k0_pay19 qa (k0_pay13 kc) (ix2 r c) = ∑ l : Fin 128, qa (ix2 r l) * kc (ix3 0 c l) := by
  pointwise [k0_pay19, k0_pay13]

/-- A trip's running maximum, the first map. -/
theorem pay6_at (qa : FVec Ideal S4096x128 .bf16) (kk : Vec Ideal S1x512x128 .bf16) (m : Vec Ideal S1x4096x128 .f32) (r : Fin 4096) (l : Fin 128) :
    k0_pay6 qa kk m (ix2 r l) = max (m (ix3 0 r l)) (Finset.univ.sup fun c : Fin 512 => k0_pay4 qa kk (ix2 r c)) := by
  pointwise [k0_pay6, k0_pay5]
  rw [← fold_sup]

/-- The running maximum, as a trip stores it. -/
theorem pay8_at (qa : FVec Ideal S4096x128 .bf16) (kk : Vec Ideal S1x512x128 .bf16) (m : Vec Ideal S1x4096x128 .f32) (r : Fin 4096) (l : Fin 128) :
    k0_pay8 qa kk m (ix3 0 r l) = k0_pay6 qa kk m (ix2 r l) := by
  pointwise [k0_pay8]

/-- The context's row maximum. -/
theorem pay20_at (qa : FVec Ideal S4096x128 .bf16) (kc : Vec Ideal S1x256x128 .bf16) (r : Fin 4096) (l : Fin 128) :
    k0_pay20 qa (k0_pay13 kc) (ix2 r l) = Finset.univ.sup fun c : Fin 256 => k0_pay19 qa (k0_pay13 kc) (ix2 r c) := by
  pointwise [k0_pay20]
  rw [← fold_sup]

/-- The context's row maximum, the second map. -/
theorem pay22_at (qa : FVec Ideal S4096x128 .bf16) (kc : Vec Ideal S1x256x128 .bf16) (r : Fin 4096) (l : Fin 128) :
    k0_pay22 qa (k0_pay13 kc) (ix3 0 r l) = k0_pay20 qa (k0_pay13 kc) (ix2 r l) := by
  pointwise [k0_pay22]

/-- A column of the values extended by ones: the value itself in the first 128 columns, one in the others. -/
def withOnes {n : ℕ} (v : Fin n → Fin 128 → EReal) (c : Fin n) (j : Fin 256) : EReal := if h : j.val < 128 then v c ⟨j.val, h⟩ else 1

/-- The accumulator one trip stores, where the maximum is the same in all lanes before the trip. -/
theorem pay7_at (qa : FVec Ideal S4096x128 .bf16) (kk vv : Vec Ideal S1x512x128 .bf16) (m : Vec Ideal S1x4096x128 .f32) (a : Vec Ideal S1x4096x256 .f32) (r : Fin 4096) (j : Fin 256)
    (M M' : EReal) (hM : ∀ l, m (ix3 0 r l) = M) (hM' : ∀ l, k0_pay6 qa kk m (ix2 r l) = M') :
    k0_pay7 qa kk vv m a (ix3 0 r j) = Ideal.exp2 (M - M') * a (ix3 0 r j)
      + ∑ c : Fin 512, Ideal.exp2 (k0_pay4 qa kk (ix2 r c) - M') * withOnes (fun c j => vv (ix3 0 c j)) c j := by
  pointwise [k0_pay7, k0_pay3, k0_pay5]
  simp only [hM, hM', dite_eq_ite, ite_self]
  rfl

/-- The accumulator stored after the context's keys. -/
theorem pay21_at (qa : FVec Ideal S4096x128 .bf16) (kc vc : Vec Ideal S1x256x128 .bf16) (r : Fin 4096) (j : Fin 256)
    (M : EReal) (hM : ∀ l, k0_pay20 qa (k0_pay13 kc) (ix2 r l) = M) :
    k0_pay21 qa (k0_pay13 kc) (k0_pay14 vc) (ix3 0 r j)
      = ∑ c : Fin 256, Ideal.exp2 (k0_pay19 qa (k0_pay13 kc) (ix2 r c) - M) * withOnes (fun c j => vc (ix3 0 c j)) c j := by
  pointwise [k0_pay21, k0_pay14]
  simp only [hM, dite_eq_ite, ite_self]
  exact (Fin.sum_univ_add (a := 128) (b := 128)
    fun c => Ideal.exp2 (k0_pay19 qa (k0_pay13 kc) (ix2 r c) - M) * withOnes (fun (c : Fin 256) j => vc (ix3 0 c j)) c j).symm

/-- The second map's stores are the first map's, at its own queries. -/
theorem pay27_eq (qb : FVec Ideal S4096x128 .bf16) (kk : Vec Ideal S1x512x128 .bf16) (m : Vec Ideal S1x4096x128 .f32) :
    k0_pay27 qb (k0_pay2 kk) m = k0_pay8 qb kk m := by
  simp only [k0_pay27, k0_pay8, k0_pay25, k0_pay6, k0_pay24, k0_pay5, k0_pay23, k0_pay4]

/-- The second map's accumulator step is the first map's at the second map's queries. -/
theorem pay26_eq (qb : FVec Ideal S4096x128 .bf16) (kk vv : Vec Ideal S1x512x128 .bf16) (m : Vec Ideal S1x4096x128 .f32) (a : Vec Ideal S1x4096x256 .f32) :
    k0_pay26 qb (k0_pay2 kk) (k0_pay3 vv) m a = k0_pay7 qb kk vv m a := by
  simp only [k0_pay26, k0_pay7, k0_pay25, k0_pay6, k0_pay24, k0_pay5, k0_pay23, k0_pay4]

/-- The first map's first maximum is the second map's formula at the first map's queries. -/
theorem pay18_eq (q : Vec Ideal S1x4096x128 .f32) (kc : Vec Ideal S1x256x128 .bf16) :
    k0_pay18 (k0_pay16 q kc) = k0_pay22 (k0_pay11 q) (k0_pay13 kc) := by
  simp only [k0_pay18, k0_pay22, k0_pay16, k0_pay20, k0_pay15, k0_pay19]

/-- The first map's first accumulator is the second map's formula at the first map's queries. -/
theorem pay17_eq (q : Vec Ideal S1x4096x128 .f32) (kc vc : Vec Ideal S1x256x128 .bf16) :
    k0_pay17 q kc vc = k0_pay21 (k0_pay11 q) (k0_pay13 kc) (k0_pay14 vc) := by
  simp only [k0_pay17, k0_pay21, k0_pay16, k0_pay20, k0_pay15, k0_pay19]

/-- One row of a map's maximum and accumulator is the softmax sum over the keys `S`: all lanes hold the maximum, and
    column `j` of the accumulator the sum weighted by the values' column `j`. -/
def RowIs {ι : Type} (S : Finset ι) (s : ι → EReal) (w : Fin 256 → ι → ℝ) (m : Vec Ideal S1x4096x128 .f32) (a : Vec Ideal S1x4096x256 .f32) (r : Fin 4096) : Prop :=
  ∃ M, (∀ l, m (ix3 0 r l) = M) ∧ ∀ j : Fin 256, Soft S s (w j) M (a (ix3 0 r j))

/-- A trip is a step of the running softmax. -/
theorem RowIs.next {ι : Type} [DecidableEq ι] {S : Finset ι} {s : ι → EReal} {w : Fin 256 → ι → ℝ} {m : Vec Ideal S1x4096x128 .f32} {a : Vec Ideal S1x4096x256 .f32} {r : Fin 4096}
    (h : RowIs S s w m a r) (qa : FVec Ideal S4096x128 .bf16) (kk vv : Vec Ideal S1x512x128 .bf16) (e : Fin 512 ↪ ι) (hd : Disjoint S (Finset.univ.map e))
    (hs : ∀ c, k0_pay4 qa kk (ix2 r c) = s (e c)) (hw : ∀ c j, withOnes (fun c j => vv (ix3 0 c j)) c j = (w j (e c) : EReal)) :
    RowIs (S ∪ Finset.univ.map e) s w (k0_pay8 qa kk m) (k0_pay7 qa kk vv m a) r := by
  obtain ⟨M, hM, hA⟩ := h
  have hM' : ∀ l, k0_pay6 qa kk m (ix2 r l) = max M ((Finset.univ.map e).sup s) := fun l => by
    rw [pay6_at, hM, Finset.sup_map]
    congr 1
    exact Finset.sup_congr rfl fun c _ => hs c
  refine ⟨max M ((Finset.univ.map e).sup s), fun l => by rw [pay8_at, hM'], fun j => (hA j).step hd rfl ?_⟩
  rw [pay7_at qa kk vv m a r j M _ hM hM', Finset.sum_map]
  congr 1
  exact Finset.sum_congr rfl fun c _ => by rw [hs, hw]

/-- The context's keys start the softmax sum. -/
theorem RowIs.first {ι : Type} {s : ι → EReal} {w : Fin 256 → ι → ℝ} {r : Fin 4096}
    (qa : FVec Ideal S4096x128 .bf16) (kc vc : Vec Ideal S1x256x128 .bf16) (e : Fin 256 ↪ ι)
    (hs : ∀ c, k0_pay19 qa (k0_pay13 kc) (ix2 r c) = s (e c)) (hw : ∀ c j, withOnes (fun c j => vc (ix3 0 c j)) c j = (w j (e c) : EReal)) :
    RowIs (Finset.univ.map e) s w (k0_pay22 qa (k0_pay13 kc)) (k0_pay21 qa (k0_pay13 kc) (k0_pay14 vc)) r := by
  have hM : ∀ l, k0_pay20 qa (k0_pay13 kc) (ix2 r l) = (Finset.univ.map e).sup s := fun l => by
    rw [pay20_at, Finset.sup_map]
    exact Finset.sup_congr rfl fun c _ => hs c
  refine ⟨(Finset.univ.map e).sup s, fun l => by rw [pay22_at, hM], fun j => Soft.first rfl ?_⟩
  rw [pay21_at qa kc vc r j _ hM, Finset.sum_map]
  exact Finset.sum_congr rfl fun c _ => by rw [hs, hw]

/-- The lane test below 64, as a test on naturals. -/
theorem slt_64 (l : Fin 128) : IntOp.cmpi CmpIPredicate.slt (BitVec.ofNat 32 l.val) 64#32 = if l.val < 64 then 1#1 else 0#1 := by
  revert l; decide

/-- The lane test from 64 on, as a test on naturals. -/
theorem sge_64 (l : Fin 128) : IntOp.cmpi CmpIPredicate.sge (BitVec.ofNat 32 l.val) 64#32 = if 64 ≤ l.val then 1#1 else 0#1 := by
  revert l; decide

/-- The constant that scales the queries: one over eight times the logarithm of two. -/
def qs : EReal := (((8 * Real.log 2)⁻¹ : ℝ) : EReal)

/-- The named constant's value. -/
theorem qs_named : (Named.named (F := Ideal) κ "qscale" (φ := .f32) 0x3E38AA3B#32 : EReal) = qs := rfl

/-- The first map's queries: the first 64 lanes. -/
theorem pay11_at (q : Vec Ideal S1x4096x128 .f32) (r : Fin 4096) (l : Fin 128) :
    k0_pay11 q (ix2 r l) = if l.val < 64 then q (ix3 0 r l) * qs else 0 := by
  pointwise [k0_pay11, k0_pay9, k0_pay10]
  rw [slt_64, ← qs_named]
  split <;> rfl

/-- The second map's queries: the last 64 lanes. -/
theorem pay12_at (q : Vec Ideal S1x4096x128 .f32) (r : Fin 4096) (l : Fin 128) :
    k0_pay12 q (ix2 r l) = if 64 ≤ l.val then q (ix3 0 r l) * qs else 0 := by
  pointwise [k0_pay12, k0_pay9, k0_pay10]
  rw [sge_64, ← qs_named]
  split <;> rfl

end Cert.KernelIdeal.Own
-- ==== Proof.Rows.lean ====
module

public import proofs.«01_k».proof.Proof.Out
public import proofs.«01_k».proof.Proof.Steps

@[expose] public section

/-!
One query row of the body's final accumulators: the softmax sum over all 4352 keys, the 4096 latent ones first and the
256 context ones after them.
-/

set_option maxRecDepth 16384

noncomputable section
namespace Cert.KernelIdeal.Own

open Cert.KernelIdeal Cert.KernelIdeal.Gen Cert.Soft
open Idealize.ShloMosaic Idealize.ShloMosaic.TcCoe Idealize.ShloMosaic.Tactic

/-- The loop has eight trips. -/
theorem trips_eq : k0_t1_loop.trips = 8 := by decide +kernel

/-- Where the context's keys stand in the list of all keys. -/
def ctxKey : Fin 256 ↪ Fin 4352 := ⟨fun c => ⟨4096 + c.val, by omega⟩, fun a b h => by
  have := congrArg Fin.val h; simp only at this; exact Fin.ext (by omega)⟩

/-- Where chunk `n`'s keys stand in the list of all keys. -/
def chunkKey (n : ℕ) (hn : n < 8) : Fin 512 ↪ Fin 4352 := ⟨fun c => ⟨512 * n + c.val, by omega⟩, fun a b h => by
  have := congrArg Fin.val h; simp only at this; exact Fin.ext (by omega)⟩

/-- The keys seen after the context and the first `n` chunks. -/
def seen (n : ℕ) : Finset (Fin 4352) := Finset.univ.filter fun κ => κ.val < 512 * n ∨ 4096 ≤ κ.val

/-- Before the loop the context keys are seen. -/
theorem seen_zero : Finset.univ.map ctxKey = seen 0 := by
  ext κ
  simp only [Finset.mem_map, Finset.mem_univ, true_and, seen, Finset.mem_filter, Nat.mul_zero, Nat.not_lt_zero, false_or]
  constructor
  · rintro ⟨c, rfl⟩
    exact Nat.le_add_right _ _
  · intro h
    exact ⟨⟨κ.val - 4096, by omega⟩, Fin.ext (by show 4096 + (κ.val - 4096) = κ.val; omega)⟩

/-- A trip adds its chunk of keys to those seen. -/
theorem seen_succ (n : ℕ) (hn : n < 8) : seen n ∪ Finset.univ.map (chunkKey n hn) = seen (n + 1) := by
  ext κ
  simp only [Finset.mem_union, Finset.mem_map, Finset.mem_univ, true_and, seen, Finset.mem_filter]
  constructor
  · rintro (h | ⟨c, rfl⟩)
    · omega
    · left; show 512 * n + c.val < 512 * (n + 1); omega
  · intro h
    by_cases h1 : κ.val < 512 * n ∨ 4096 ≤ κ.val
    · exact Or.inl h1
    · right
      exact ⟨⟨κ.val - 512 * n, by omega⟩, Fin.ext (by show 512 * n + (κ.val - 512 * n) = κ.val; omega)⟩

/-- A trip's chunk was not seen before. -/
theorem seen_disjoint (n : ℕ) (hn : n < 8) : Disjoint (seen n) (Finset.univ.map (chunkKey n hn)) := by
  rw [Finset.disjoint_left]
  intro κ h1 h2
  simp only [Finset.mem_map, Finset.mem_univ, true_and, seen, Finset.mem_filter] at h1 h2
  obtain ⟨c, rfl⟩ := h2
  have : 512 * n + c.val < 512 * n ∨ 4096 ≤ 512 * n + c.val := h1
  omega

/-- After eight trips all keys are seen. -/
theorem seen_all : seen 8 = Finset.univ := by
  ext κ
  simp only [seen, Finset.mem_filter, Finset.mem_univ, true_and, iff_true]
  omega

/-- Row `κ` of a latent block followed by a context block. -/
def joined (x : Vec Ideal S1x4096x128 .bf16) (xc : Vec Ideal S1x256x128 .bf16) (κ : Fin 4352) (l : Fin 128) : EReal :=
  if h : κ.val < 4096 then x (ix3 0 ⟨κ.val, h⟩ l) else xc (ix3 0 ⟨κ.val - 4096, by omega⟩ l)

/-- A context key's row. -/
theorem joined_ctx (x : Vec Ideal S1x4096x128 .bf16) (xc : Vec Ideal S1x256x128 .bf16) (c : Fin 256) (l : Fin 128) :
    joined x xc (ctxKey c) l = xc (ix3 0 c l) := by
  have h : ¬ (ctxKey c).val < 4096 := by show ¬ 4096 + c.val < 4096; omega
  have e : (⟨(ctxKey c).val - 4096, by omega⟩ : Fin 256) = c := Fin.ext (by show 4096 + c.val - 4096 = c.val; omega)
  unfold joined
  rw [dif_neg h, e]

/-- A row of a trip's chunk. -/
theorem joined_chunk (x : Vec Ideal S1x4096x128 .bf16) (xc : Vec Ideal S1x256x128 .bf16) (n : ℕ) (hn : n < 8) (c : Fin 512) (l : Fin 128) :
    joined x xc (chunkKey n hn c) l = chunk x ⟨n, trips_eq ▸ hn⟩ (ix3 0 c l) := by
  have h : (chunkKey n hn c).val < 4096 := by show 512 * n + c.val < 4096; omega
  unfold joined chunk View.ld
  rw [dif_pos h]
  refine congrArg x (funext fun a => Fin.ext ?_)
  have ho := k0_off1_eq ⟨n, trips_eq ▸ hn⟩
  match a with
  | ⟨0, _⟩ => show 0 = k0_off1 ⟨n, trips_eq ▸ hn⟩ 0 + 1 * 0; rw [ho]; rfl
  | ⟨1, _⟩ => show 512 * n + c.val = k0_off1 ⟨n, trips_eq ▸ hn⟩ 1 + 1 * c.val; rw [ho]; show _ = 512 * n + 1 * c.val; omega
  | ⟨2, _⟩ => show l.val = k0_off1 ⟨n, trips_eq ▸ hn⟩ 2 + 1 * l.val; rw [ho]; show _ = 0 + 1 * l.val; omega

/-- The score of query row `r` against key `κ`, at a map's masked queries. -/
def score (qa : FVec Ideal S4096x128 .bf16) (k : Vec Ideal S1x4096x128 .bf16) (kc : Vec Ideal S1x256x128 .bf16) (r : Fin 4096) (κ : Fin 4352) : EReal :=
  ∑ l : Fin 128, qa (ix2 r l) * joined k kc κ l

section Rows
variable (q : Vec Ideal S1x4096x128 .f32) (k v : Vec Ideal S1x4096x128 .bf16) (kc vc : Vec Ideal S1x256x128 .bf16) (r : Fin 4096) (w : Fin 256 → Fin 4352 → ℝ)

/-- After `n` chunks both maps' rows are the softmax sums over the keys seen. -/
theorem rows_after (hw : ∀ κ j, withOnes (joined v vc) κ j = (w j κ : EReal)) (n : ℕ) (hn : n ≤ 8) :
    RowIs (seen n) (score (k0_pay11 q) k kc r) w ((Run.start q kc vc).after (k0_pay11 q) (k0_pay12 q) (chunk k) (chunk v) n).m0
        ((Run.start q kc vc).after (k0_pay11 q) (k0_pay12 q) (chunk k) (chunk v) n).a0 r
      ∧ RowIs (seen n) (score (k0_pay12 q) k kc r) w ((Run.start q kc vc).after (k0_pay11 q) (k0_pay12 q) (chunk k) (chunk v) n).m1
        ((Run.start q kc vc).after (k0_pay11 q) (k0_pay12 q) (chunk k) (chunk v) n).a1 r := by
  induction n with
  | zero =>
    have hs : ∀ (qa : FVec Ideal S4096x128 .bf16) c, k0_pay19 qa (k0_pay13 kc) (ix2 r c) = score qa k kc r (ctxKey c) := fun qa c => by
      rw [pay19_at]; exact Finset.sum_congr rfl fun l _ => by rw [joined_ctx]
    have hv : ∀ c j, withOnes (fun c j => vc (ix3 0 c j)) c j = (w j (ctxKey c) : EReal) := fun c j => by
      rw [← hw]; unfold withOnes; split
      · rw [joined_ctx]
      · rfl
    rw [Run.after, Run.start_m0, Run.start_a0, Run.start_m1, Run.start_a1, pay18_eq, pay17_eq, ← seen_zero]
    exact ⟨RowIs.first _ kc vc ctxKey (hs _) hv, RowIs.first _ kc vc ctxKey (hs _) hv⟩
  | succ n ih =>
    obtain ⟨h0, h1⟩ := ih (Nat.le_of_succ_le hn)
    have ht : n < k0_t1_loop.trips := trips_eq ▸ hn
    have hs : ∀ (qa : FVec Ideal S4096x128 .bf16) c, k0_pay4 qa (chunk k ⟨n, ht⟩) (ix2 r c) = score qa k kc r (chunkKey n hn c) := fun qa c => by
      rw [pay4_at]; exact Finset.sum_congr rfl fun l _ => by rw [joined_chunk]
    have hv : ∀ c j, withOnes (fun c j => chunk v ⟨n, ht⟩ (ix3 0 c j)) c j = (w j (chunkKey n hn c) : EReal) := fun c j => by
      rw [← hw]; unfold withOnes; split
      · rw [joined_chunk]
      · rfl
    have hr : (Run.start q kc vc).after (k0_pay11 q) (k0_pay12 q) (chunk k) (chunk v) (n + 1)
        = ((Run.start q kc vc).after (k0_pay11 q) (k0_pay12 q) (chunk k) (chunk v) n).next (k0_pay11 q) (k0_pay12 q) (chunk k ⟨n, ht⟩) (chunk v ⟨n, ht⟩) := by
      rw [Run.after]; exact dif_pos ht
    rw [hr]
    dsimp only [Run.next]
    rw [pay27_eq, pay26_eq, ← seen_succ n hn]
    exact ⟨h0.next _ _ _ _ (seen_disjoint n hn) (hs _) hv, h1.next _ _ _ _ (seen_disjoint n hn) (hs _) hv⟩

/-- At the end both maps' rows are the softmax sums over all keys. -/
theorem rows_final (hw : ∀ κ j, withOnes (joined v vc) κ j = (w j κ : EReal)) :
    RowIs Finset.univ (score (k0_pay11 q) k kc r) w (Run.final q k v kc vc).m0 (Run.final q k v kc vc).a0 r
      ∧ RowIs Finset.univ (score (k0_pay12 q) k kc r) w (Run.final q k v kc vc).m1 (Run.final q k v kc vc).a1 r := by
  have h := rows_after q k v kc vc r w hw 8 le_rfl
  rw [seen_all] at h
  unfold Run.final
  rw [trips_eq]
  exact h

end Rows

end Cert.KernelIdeal.Own
-- ==== Proof.Final.lean ====
module

public import proofs.«01_k».proof.Proof.Rows

@[expose] public section

/-!
The kernel's last step on one block, and why its row agrees with the reference's: the accumulators are full softmax sums,
their quotients are the two averages, and the scaled difference of the averages is the scaled average of the differences.
-/

set_option maxRecDepth 16384

noncomputable section
namespace Cert.KernelIdeal.Own

open Cert.KernelIdeal Cert.KernelIdeal.Gen Cert.Soft
open Idealize.ShloMosaic Idealize.ShloMosaic.TcCoe Idealize.ShloMosaic.Tactic

/-- The small constant under the root is a positive number. -/
theorem lit_eps : ∃ x : ℝ, 0 < x ∧ Ideal.ofBits .f32 0x358637BD#32 = (x : EReal) := by
  simp [Ideal.ofBits, Ideal.ieee]
  exact ⟨8796093 * (2 ^ 43)⁻¹, by positivity, (EReal.coe_mul _ _).symm⟩

/-- The number of columns. -/
theorem lit_128 : Ideal.ofBits .f32 0x43000000#32 = ((128 : ℝ) : EReal) := by
  simp [Ideal.ofBits, Ideal.ieee]
  rw [← EReal.coe_mul]
  norm_num

/-- The reference's factor on the scores. -/
theorem lit_eighth : Ideal.ofBits .f32 0x3E000000#32 = ((1 / 8 : ℝ) : EReal) := by
  simp [Ideal.ofBits, Ideal.ieee]
  rw [← EReal.coe_mul]
  norm_num

/-- A row scaled by the inverse root of its mean square, times a gain, times a constant. -/
def scaled (o g : Fin 128 → EReal) (e : Fin 128) : EReal :=
  o e * Ideal.rsqrt (Ideal.div (∑ i, o i * o i) (Ideal.ofBits .f32 0x43000000#32) + Ideal.ofBits .f32 0x358637BD#32) * g e * Ideal.ofBits .f32 0x3F4CCCCD#32

/-- Two rows that agree, or consist of zeros and infinities only, have the same scaled row. -/
theorem scaled_agree (K R g : Fin 128 → EReal) (h : (∀ j, K j = R j) ∨ ((∀ j, Odd (K j)) ∧ ∀ j, Odd (R j))) : scaled K g = scaled R g := by
  rcases h with h | ⟨hK, hR⟩
  · rw [funext h]
  · obtain ⟨eps, he, hl⟩ := lit_eps
    funext e
    unfold scaled
    rw [hl, lit_128, odd_scaled K hK 128 eps (by norm_num) he e, odd_scaled R hR 128 eps (by norm_num) he e]

/-- The softmax weights of a row of scores, without their division. -/
def expo (t : Fin 4352 → EReal) (κ : Fin 4352) : EReal := Ideal.exp (t κ - Finset.univ.sup t)

/-- The difference of the two maps' averages, in the reference's order. -/
def mixed (t0 t1 : Fin 4352 → EReal) (v : Fin 4352 → Fin 128 → EReal) (lam : EReal) (e : Fin 128) : EReal :=
  ∑ κ, v κ e * (Ideal.div (expo t0 κ) (∑ κ, expo t0 κ) - lam * Ideal.div (expo t1 κ) (∑ κ, expo t1 κ))

/-- A weight in base 2 at the kernel's scores is the natural one at the reference's. -/
theorem exp2_scores (t : Fin 4352 → EReal) (κ : Fin 4352) :
    Ideal.exp2 (((Real.log 2)⁻¹ : ℝ) * t κ - Finset.univ.sup fun κ => (((Real.log 2)⁻¹ : ℝ) : EReal) * t κ) = expo t κ := by
  rw [sup_scale _ _ (inv_pos.mpr (Real.log_pos (by norm_num))), exp2_scale]; rfl

/-- The natural weights are finite and not negative. -/
theorem expo_real (t : Fin 4352 → EReal) : ∃ e : Fin 4352 → ℝ, (∀ κ, 0 ≤ e κ) ∧ ∀ κ, expo t κ = (e κ : EReal) := by
  have h : ∀ κ, ∃ r : ℝ, 0 ≤ r ∧ expo t κ = (r : EReal) := fun κ => by
    rw [← exp2_scores]
    exact weight_real (Finset.le_sup (f := fun κ => (((Real.log 2)⁻¹ : ℝ) : EReal) * t κ) (Finset.mem_univ κ))
  choose e he using h
  exact ⟨e, fun κ => (he κ).1, fun κ => (he κ).2⟩

/-- What a row's accumulator holds at the end, when its scores are the reference's times `1 / log 2`. -/
theorem RowIs.acc_at {s : Fin 4352 → EReal} {w : Fin 256 → Fin 4352 → ℝ} {m a r} (h : RowIs Finset.univ s w m a r)
    (t : Fin 4352 → EReal) (hs : ∀ κ, s κ = (((Real.log 2)⁻¹ : ℝ) : EReal) * t κ) (j : Fin 256) :
    a (ix3 0 r j) = ∑ κ, expo t κ * (w j κ : EReal) := by
  obtain ⟨M, -, h⟩ := h
  obtain ⟨h1, h2⟩ := h j
  rw [h2, h1, funext hs]
  exact Finset.sum_congr rfl fun κ _ => by rw [exp2_scores]

/-- The last step at an index of the block. -/
theorem pay1_at (lam : Elt Ideal .f32) (a0 a1 : Vec Ideal S1x4096x256 .f32) (g : Vec Ideal S1x128 .f32) (r : Fin 4096) (e : Fin 128) :
    k0_pay1 lam a0 a1 g (ix3 0 r e)
      = scaled (fun e => Ideal.div (a0 (ix3 0 r ⟨e.val, by omega⟩)) (a0 (ix3 0 r ⟨128 + e.val, by omega⟩))
          - lam * Ideal.div (a1 (ix3 0 r ⟨e.val, by omega⟩)) (a1 (ix3 0 r ⟨128 + e.val, by omega⟩))) (fun e => g (ix2 0 e)) e := by
  unfold scaled
  pointwise [k0_pay1]

/-- The kernel's block at an index: the reference's row there. -/
theorem block_at (q : Vec Ideal S1x4096x128 .f32) (k v : Vec Ideal S1x4096x128 .bf16) (kc vc : Vec Ideal S1x256x128 .bf16) (lam : ℝ) (g : Vec Ideal S1x128 .f32)
    (r : Fin 4096) (e : Fin 128) (t0 t1 : Fin 4352 → EReal) (u : Fin 4352 → Fin 128 → ℝ)
    (hv : ∀ κ j, joined v vc κ j = (u κ j : EReal))
    (h0 : ∀ κ, score (k0_pay11 q) k kc r κ = (((Real.log 2)⁻¹ : ℝ) : EReal) * t0 κ)
    (h1 : ∀ κ, score (k0_pay12 q) k kc r κ = (((Real.log 2)⁻¹ : ℝ) : EReal) * t1 κ) :
    k0_pay1 (lam : EReal) (Run.final q k v kc vc).a0 (Run.final q k v kc vc).a1 g (ix3 0 r e)
      = scaled (mixed t0 t1 (fun κ j => (u κ j : EReal)) lam) (fun e => g (ix2 0 e)) e := by
  let w : Fin 256 → Fin 4352 → ℝ := fun j κ => if h : j.val < 128 then u κ ⟨j.val, h⟩ else 1
  have hw : ∀ κ j, withOnes (joined v vc) κ j = (w j κ : EReal) := fun κ j => by
    unfold withOnes
    by_cases hj : j.val < 128
    · rw [dif_pos hj, hv]; show _ = ((if h : j.val < 128 then u κ ⟨j.val, h⟩ else 1 : ℝ) : EReal); rw [dif_pos hj]
    · rw [dif_neg hj]; show _ = ((if h : j.val < 128 then u κ ⟨j.val, h⟩ else 1 : ℝ) : EReal); rw [dif_neg hj]; rfl
  obtain ⟨r0, r1⟩ := rows_final q k v kc vc r w hw
  obtain ⟨e0, n0, x0⟩ := expo_real t0
  obtain ⟨e1, n1, x1⟩ := expo_real t1
  have hval : ∀ (j : Fin 128) κ, w ⟨j.val, by omega⟩ κ = u κ j := fun j κ => dif_pos j.isLt
  have hone : ∀ (j : Fin 128) κ, w ⟨128 + j.val, by omega⟩ κ = 1 := fun j κ => dif_neg (by show ¬ 128 + j.val < 128; omega)
  have key : ∀ {m a} {s t : Fin 4352 → EReal} {f : Fin 4352 → ℝ} (hr : RowIs Finset.univ s w m a r)
      (hs : ∀ κ, s κ = (((Real.log 2)⁻¹ : ℝ) : EReal) * t κ) (hf : ∀ κ, expo t κ = (f κ : EReal)) (j : Fin 128),
      Ideal.div (a (ix3 0 r ⟨j.val, by omega⟩)) (a (ix3 0 r ⟨128 + j.val, by omega⟩))
        = Ideal.div (∑ κ, (f κ : EReal) * (u κ j : EReal)) (∑ κ, (f κ : EReal)) := fun {m a s t f} hr hs hf j => by
    rw [hr.acc_at t hs, hr.acc_at t hs]
    exact congrArg₂ Ideal.div (Finset.sum_congr rfl fun κ _ => by rw [hval, hf])
      (Finset.sum_congr rfl fun κ _ => by rw [hone, hf, EReal.coe_one, mul_one])
  rw [pay1_at]
  refine congrFun (scaled_agree _ _ _ ?_) e
  have := diff_agree e0 e1 n0 n1 u lam
  simp only [key r0 h0 x0, key r1 h1 x1, mixed, x0, x1]
  exact this

end Cert.KernelIdeal.Own
-- ==== Proof.Scores.lean ====
module

public import proofs.«01_k».proof.Proof.Final

@[expose] public section

/-!
The kernel's scores of one block: each map's product over 128 masked lanes is the product over that map's 64 lanes, and the
factor on the queries is the reference's one eighth times the base-2 factor.
-/

set_option maxRecDepth 16384

noncomputable section
namespace Cert.KernelIdeal.Own

open Cert.KernelIdeal Cert.KernelIdeal.Gen Cert.Soft
open Idealize.ShloMosaic Idealize.ShloMosaic.TcCoe Idealize.ShloMosaic.Tactic

/-- A factor that is a nonnegative real moves out of a sum. -/
theorem sum_scaled (n : ℕ) (c : ℝ) (hc : 0 ≤ c) (f : Fin n → EReal) : ∑ i, (c : EReal) * f i = (c : EReal) * ∑ i, f i := by
  induction n with
  | zero => simp
  | succ n ih =>
    rw [Fin.sum_univ_succ, Fin.sum_univ_succ, ih,
      EReal.left_distrib_of_nonneg_of_ne_top (by exact_mod_cast hc) (EReal.coe_ne_top _)]

/-- The kernel's factor on the queries is one eighth, then one over the logarithm of two. -/
theorem qs_split : qs = (((Real.log 2)⁻¹ : ℝ) : EReal) * Ideal.ofBits .f32 0x3E000000#32 := by
  rw [lit_eighth, ← EReal.coe_mul]
  unfold qs
  congr 1
  rw [mul_inv, mul_comm]
  norm_num

/-- The factor on the queries moves out of the product. -/
theorem qs_out (n : ℕ) (f g : Fin n → EReal) : ∑ i, f i * qs * g i
    = (((Real.log 2)⁻¹ : ℝ) : EReal) * ((∑ i, f i * g i) * Ideal.ofBits .f32 0x3E000000#32) := by
  have h : ∀ i, f i * qs * g i = (((8 * Real.log 2)⁻¹ : ℝ) : EReal) * (f i * g i) := fun i => by
    rw [mul_comm (f i) qs, mul_assoc]; rfl
  rw [Finset.sum_congr rfl fun i _ => h i, sum_scaled n _ (by positivity)]
  show qs * _ = _
  rw [qs_split, mul_assoc, mul_comm (Ideal.ofBits .f32 0x3E000000#32)]

/-- A sum over 128 lanes is that over the first 64 and that over the last 64. -/
theorem sum_halves (f : Fin 128 → EReal) : ∑ l, f l = (∑ d : Fin 64, f ⟨d.val, by omega⟩) + ∑ d : Fin 64, f ⟨64 + d.val, by omega⟩ :=
  Fin.sum_univ_add (a := 64) (b := 64) f

/-- The first map's scores: the product over the first 64 lanes. -/
theorem score_first (q : Vec Ideal S1x4096x128 .f32) (k : Vec Ideal S1x4096x128 .bf16) (kc : Vec Ideal S1x256x128 .bf16) (r : Fin 4096) (κ : Fin 4352) :
    score (k0_pay11 q) k kc r κ = (((Real.log 2)⁻¹ : ℝ) : EReal)
      * ((∑ d : Fin 64, q (ix3 0 r ⟨d.val, by omega⟩) * joined k kc κ ⟨d.val, by omega⟩) * Ideal.ofBits .f32 0x3E000000#32) := by
  unfold score
  rw [sum_halves, ← qs_out]
  have e1 : ∀ d : Fin 64, k0_pay11 q (ix2 r ⟨d.val, by omega⟩) * joined k kc κ ⟨d.val, by omega⟩
      = q (ix3 0 r ⟨d.val, by omega⟩) * qs * joined k kc κ ⟨d.val, by omega⟩ := fun d => by
    rw [pay11_at, if_pos (show d.val < 64 from d.isLt)]
  have e2 : ∀ d : Fin 64, k0_pay11 q (ix2 r ⟨64 + d.val, by omega⟩) * joined k kc κ ⟨64 + d.val, by omega⟩ = 0 := fun d => by
    rw [pay11_at, if_neg (show ¬ 64 + d.val < 64 by omega)]; exact zero_mul _
  rw [Finset.sum_congr rfl fun d _ => e1 d, Finset.sum_congr rfl fun d _ => e2 d, Finset.sum_const_zero, add_zero]

/-- The second map's scores: the product over the last 64 lanes. -/
theorem score_second (q : Vec Ideal S1x4096x128 .f32) (k : Vec Ideal S1x4096x128 .bf16) (kc : Vec Ideal S1x256x128 .bf16) (r : Fin 4096) (κ : Fin 4352) :
    score (k0_pay12 q) k kc r κ = (((Real.log 2)⁻¹ : ℝ) : EReal)
      * ((∑ d : Fin 64, q (ix3 0 r ⟨64 + d.val, by omega⟩) * joined k kc κ ⟨64 + d.val, by omega⟩) * Ideal.ofBits .f32 0x3E000000#32) := by
  unfold score
  rw [sum_halves, ← qs_out]
  have e1 : ∀ d : Fin 64, k0_pay12 q (ix2 r ⟨d.val, by omega⟩) * joined k kc κ ⟨d.val, by omega⟩ = 0 := fun d => by
    rw [pay12_at, if_neg (show ¬ 64 ≤ d.val by omega)]; exact zero_mul _
  have e2 : ∀ d : Fin 64, k0_pay12 q (ix2 r ⟨64 + d.val, by omega⟩) * joined k kc κ ⟨64 + d.val, by omega⟩
      = q (ix3 0 r ⟨64 + d.val, by omega⟩) * qs * joined k kc κ ⟨64 + d.val, by omega⟩ := fun d => by
    rw [pay12_at, if_pos (show 64 ≤ 64 + d.val by omega)]
  rw [Finset.sum_congr rfl fun d _ => e1 d, Finset.sum_congr rfl fun d _ => e2 d, Finset.sum_const_zero, zero_add]

end Cert.KernelIdeal.Own
-- ==== Proof.Host.lean ====
module

public import proofs.«01_k».proof.Proof.Scores
public import proofs.«01_k».proof.Proof.Gen.KernelIdeal.Value
public import Idealize.ShloMosaic.Lib.StableHlo.ReadAt

@[expose] public section

/-! The arrays the kernel is entered with, as terms over the arguments. -/

set_option maxRecDepth 16384

noncomputable section
namespace Cert.KernelIdeal.Own

open Cert.KernelIdeal Cert.KernelIdeal.Gen Cert.Soft
open Idealize.ShloMosaic Idealize.ShloMosaic.TcCoe Idealize.ShloMosaic.Tactic

variable (m : (ℓ : Loc nD τ sig) → Buf (Elt Ideal) ℓ) (c : Dev nD)

/-- The queries' array. -/
theorem V_q : V m c main_arg0 = m ((c : Thread nD τ).loc main_arg0) := by
  show StableHlo.after hostOps0 _ (Proc.devRef .tc main_arg0) = _
  after_results

/-- The keys' array. -/
theorem V_k : V m c main_v13 = m ((c : Thread nD τ).loc main_arg1) := by
  show StableHlo.after hostOps0 _ (Proc.devRef .tc main_v13) = _
  after_results
  rfl

/-- The values' array. -/
theorem V_v : V m c main_v14 = m ((c : Thread nD τ).loc main_arg2) := by
  show StableHlo.after hostOps0 _ (Proc.devRef .tc main_v14) = _
  after_results
  rfl

/-- The context keys' array. -/
theorem V_kc : V m c main_v15 = m ((c : Thread nD τ).loc main_arg3) := by
  show StableHlo.after hostOps0 _ (Proc.devRef .tc main_v15) = _
  after_results
  rfl

/-- The context values' array. -/
theorem V_vc : V m c main_v16 = m ((c : Thread nD τ).loc main_arg4) := by
  show StableHlo.after hostOps0 _ (Proc.devRef .tc main_v16) = _
  after_results
  rfl

/-- The norm's weights. -/
theorem V_g (e : Fin 128) : (V m c main_v18 : Vec Ideal S1x128 .f32) (ix2 0 e) = (m ((c : Thread nD τ).loc main_arg9) : Vec Ideal S1x128 .f32) (ix2 0 e) := by
  unfold V
  after_reads_at

/-- The subtraction weight of four vectors. -/
def lamOf (x5 x6 x7 x8 : Vec Ideal S1x64 .f32) : EReal :=
  Ideal.exp (∑ x, x5 (ix2 0 x) * x6 (ix2 0 x)) - Ideal.exp (∑ x, x7 (ix2 0 x) * x8 (ix2 0 x)) + Ideal.ofBits .f32 0x3E4CCCCD#32

/-- The subtraction weight the kernel is entered with. -/
theorem V_lam : (V m c main_v12 : Vec Ideal S1x1 .f32) (ix2 0 0)
    = lamOf (m ((c : Thread nD τ).loc main_arg5)) (m ((c : Thread nD τ).loc main_arg6)) (m ((c : Thread nD τ).loc main_arg7)) (m ((c : Thread nD τ).loc main_arg8)) := by
  unfold V lamOf
  after_reads_at

end Cert.KernelIdeal.Own
-- ==== Proof.Blocks.lean ====
module

public import proofs.«01_k».proof.Proof.Host

@[expose] public section

/-! The blocks the kernel works on at a grid point, as entries of the arguments: point `t` has batch `t / 8` and head `t % 8`. -/

set_option maxRecDepth 16384

noncomputable section
namespace Cert.KernelIdeal.Own

open Cert.KernelIdeal Cert.KernelIdeal.Gen Cert.Soft
open Idealize.ShloMosaic Idealize.ShloMosaic.TcCoe Idealize.ShloMosaic.Tactic

variable (m : (ℓ : Loc nD τ sig) → Buf (Elt Ideal) ℓ) (c : Dev nD)

/-- There are 64 grid points. -/
theorem points (t : Fin cfg0.N) : t.val < 64 := by
  have h : cfg0.N = 64 := N_0
  have := t.isLt
  omega

/-- A grid point's batch. -/
def batch (t : Fin cfg0.N) : Fin 8 := ⟨t.val / 8, by have := points t; omega⟩
/-- A grid point's head. -/
def head (t : Fin cfg0.N) : Fin 8 := ⟨t.val % 8, by omega⟩
/-- A lane of a head, as a column of an array. -/
def lane (h : Fin 8) (l : Fin 128) : Fin 1024 := ⟨h.val * 128 + l.val, by omega⟩

/-- The block index of the queries at a grid point. -/
theorem index_q : ∀ t : Fin cfg0.N, win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8)
/-- The block index of the keys at a grid point. -/
theorem index_k : ∀ t : Fin cfg0.N, win0_2.index t 0 = t.val / 8 ∧ win0_2.index t 1 = 0 ∧ win0_2.index t 2 = t.val % 8 :=
  (by decide +kernel : ∀ t : Fin grid0.N, win0_2.index t 0 = t.val / 8 ∧ win0_2.index t 1 = 0 ∧ win0_2.index t 2 = t.val % 8)
/-- The block index of the values at a grid point. -/
theorem index_v : ∀ t : Fin cfg0.N, win0_3.index t 0 = t.val / 8 ∧ win0_3.index t 1 = 0 ∧ win0_3.index t 2 = t.val % 8 :=
  (by decide +kernel : ∀ t : Fin grid0.N, win0_3.index t 0 = t.val / 8 ∧ win0_3.index t 1 = 0 ∧ win0_3.index t 2 = t.val % 8)
/-- The block index of the context keys at a grid point. -/
theorem index_kc : ∀ t : Fin cfg0.N, win0_4.index t 0 = t.val / 8 ∧ win0_4.index t 1 = 0 ∧ win0_4.index t 2 = t.val % 8 :=
  (by decide +kernel : ∀ t : Fin grid0.N, win0_4.index t 0 = t.val / 8 ∧ win0_4.index t 1 = 0 ∧ win0_4.index t 2 = t.val % 8)
/-- The block index of the context values at a grid point. -/
theorem index_vc : ∀ t : Fin cfg0.N, win0_5.index t 0 = t.val / 8 ∧ win0_5.index t 1 = 0 ∧ win0_5.index t 2 = t.val % 8 :=
  (by decide +kernel : ∀ t : Fin grid0.N, win0_5.index t 0 = t.val / 8 ∧ win0_5.index t 1 = 0 ∧ win0_5.index t 2 = t.val % 8)
/-- The block index of the output at a grid point. -/
theorem index_out : ∀ t : Fin cfg0.N, win0_7.index t 0 = t.val / 8 ∧ win0_7.index t 1 = 0 ∧ win0_7.index t 2 = t.val % 8 :=
  (by decide +kernel : ∀ t : Fin grid0.N, win0_7.index t 0 = t.val / 8 ∧ win0_7.index t 1 = 0 ∧ win0_7.index t 2 = t.val % 8)
/-- The block index of the subtraction weight at a grid point. -/
theorem index_lam : ∀ t : Fin cfg0.N, win0_0.index t 0 = 0 ∧ win0_0.index t 1 = 0 :=
  (by decide +kernel : ∀ t : Fin grid0.N, win0_0.index t 0 = 0 ∧ win0_0.index t 1 = 0)
/-- The block index of the norm's weights at a grid point. -/
theorem index_g : ∀ t : Fin cfg0.N, win0_6.index t 0 = 0 ∧ win0_6.index t 1 = 0 :=
  (by decide +kernel : ∀ t : Fin grid0.N, win0_6.index t 0 = 0 ∧ win0_6.index t 1 = 0)

/-- The queries of a grid point. -/
theorem q_at (t : Fin cfg0.N) (r : Fin 4096) (l : Fin 128) : (iblk m c 1 t : Vec Ideal S1x4096x128 .f32) (ix3 0 r l)
    = (m ((c : Thread nD τ).loc main_arg0) : Vec Ideal S8x4096x1024 .f32) (ix3 (batch t) r (lane (head t) l)) := by
  obtain ⟨i0, i1, i2⟩ := index_q t
  unfold iblk
  rw [View.read_apply]
  show V m c main_arg0 _ = _
  rw [V_q]
  refine congrArg _ (funext fun a => Fin.ext ?_)
  match a with
  | ⟨0, _⟩ => show win0_1.index t 0 * 1 + 1 * 0 = t.val / 8; rw [i0]; omega
  | ⟨1, _⟩ => show win0_1.index t 1 * 4096 + 1 * r.val = r.val; rw [i1]; omega
  | ⟨2, _⟩ => show win0_1.index t 2 * 128 + 1 * l.val = t.val % 8 * 128 + l.val; rw [i2]; omega

/-- The keys of a grid point. -/
theorem k_at (t : Fin cfg0.N) (r : Fin 4096) (l : Fin 128) : (iblk m c 2 t : Vec Ideal S1x4096x128 .bf16) (ix3 0 r l)
    = (m ((c : Thread nD τ).loc main_arg1) : Vec Ideal S8x4096x1024 .f32) (ix3 (batch t) r (lane (head t) l)) := by
  obtain ⟨i0, i1, i2⟩ := index_k t
  unfold iblk
  rw [View.read_apply]
  show V m c main_v13 _ = _
  rw [V_k]
  refine congrArg _ (funext fun a => Fin.ext ?_)
  match a with
  | ⟨0, _⟩ => show win0_2.index t 0 * 1 + 1 * 0 = t.val / 8; rw [i0]; omega
  | ⟨1, _⟩ => show win0_2.index t 1 * 4096 + 1 * r.val = r.val; rw [i1]; omega
  | ⟨2, _⟩ => show win0_2.index t 2 * 128 + 1 * l.val = t.val % 8 * 128 + l.val; rw [i2]; omega

/-- The values of a grid point. -/
theorem v_at (t : Fin cfg0.N) (r : Fin 4096) (l : Fin 128) : (iblk m c 3 t : Vec Ideal S1x4096x128 .bf16) (ix3 0 r l)
    = (m ((c : Thread nD τ).loc main_arg2) : Vec Ideal S8x4096x1024 .f32) (ix3 (batch t) r (lane (head t) l)) := by
  obtain ⟨i0, i1, i2⟩ := index_v t
  unfold iblk
  rw [View.read_apply]
  show V m c main_v14 _ = _
  rw [V_v]
  refine congrArg _ (funext fun a => Fin.ext ?_)
  match a with
  | ⟨0, _⟩ => show win0_3.index t 0 * 1 + 1 * 0 = t.val / 8; rw [i0]; omega
  | ⟨1, _⟩ => show win0_3.index t 1 * 4096 + 1 * r.val = r.val; rw [i1]; omega
  | ⟨2, _⟩ => show win0_3.index t 2 * 128 + 1 * l.val = t.val % 8 * 128 + l.val; rw [i2]; omega

/-- The context keys of a grid point. -/
theorem kc_at (t : Fin cfg0.N) (r : Fin 256) (l : Fin 128) : (iblk m c 4 t : Vec Ideal S1x256x128 .bf16) (ix3 0 r l)
    = (m ((c : Thread nD τ).loc main_arg3) : Vec Ideal S8x256x1024 .f32) (ix3 (batch t) r (lane (head t) l)) := by
  obtain ⟨i0, i1, i2⟩ := index_kc t
  unfold iblk
  rw [View.read_apply]
  show V m c main_v15 _ = _
  rw [V_kc]
  refine congrArg _ (funext fun a => Fin.ext ?_)
  match a with
  | ⟨0, _⟩ => show win0_4.index t 0 * 1 + 1 * 0 = t.val / 8; rw [i0]; omega
  | ⟨1, _⟩ => show win0_4.index t 1 * 256 + 1 * r.val = r.val; rw [i1]; omega
  | ⟨2, _⟩ => show win0_4.index t 2 * 128 + 1 * l.val = t.val % 8 * 128 + l.val; rw [i2]; omega

/-- The context values of a grid point. -/
theorem vc_at (t : Fin cfg0.N) (r : Fin 256) (l : Fin 128) : (iblk m c 5 t : Vec Ideal S1x256x128 .bf16) (ix3 0 r l)
    = (m ((c : Thread nD τ).loc main_arg4) : Vec Ideal S8x256x1024 .f32) (ix3 (batch t) r (lane (head t) l)) := by
  obtain ⟨i0, i1, i2⟩ := index_vc t
  unfold iblk
  rw [View.read_apply]
  show V m c main_v16 _ = _
  rw [V_vc]
  refine congrArg _ (funext fun a => Fin.ext ?_)
  match a with
  | ⟨0, _⟩ => show win0_5.index t 0 * 1 + 1 * 0 = t.val / 8; rw [i0]; omega
  | ⟨1, _⟩ => show win0_5.index t 1 * 256 + 1 * r.val = r.val; rw [i1]; omega
  | ⟨2, _⟩ => show win0_5.index t 2 * 128 + 1 * l.val = t.val % 8 * 128 + l.val; rw [i2]; omega

/-- The subtraction weight of a grid point. -/
theorem lam_at (t : Fin cfg0.N) : (iblk m c 0 t : Vec Ideal S1x1 .f32) (ix2 0 0)
    = lamOf (m ((c : Thread nD τ).loc main_arg5)) (m ((c : Thread nD τ).loc main_arg6)) (m ((c : Thread nD τ).loc main_arg7)) (m ((c : Thread nD τ).loc main_arg8)) := by
  obtain ⟨i0, i1⟩ := index_lam t
  rw [← V_lam m c]
  unfold iblk
  rw [View.read_apply]
  show V m c main_v12 _ = _
  refine congrArg _ (funext fun a => Fin.ext ?_)
  match a with
  | ⟨0, _⟩ => show win0_0.index t 0 * 1 + 1 * 0 = 0; rw [i0]
  | ⟨1, _⟩ => show win0_0.index t 1 * 1 + 1 * 0 = 0; rw [i1]

/-- The norm's weights at a grid point. -/
theorem g_at (t : Fin cfg0.N) (e : Fin 128) : (iblk m c 6 t : Vec Ideal S1x128 .f32) (ix2 0 e)
    = (m ((c : Thread nD τ).loc main_arg9) : Vec Ideal S1x128 .f32) (ix2 0 e) := by
  obtain ⟨i0, i1⟩ := index_g t
  rw [← V_g m c]
  unfold iblk
  rw [View.read_apply]
  show V m c main_v18 _ = _
  refine congrArg _ (funext fun a => Fin.ext ?_)
  match a with
  | ⟨0, _⟩ => show win0_6.index t 0 * 1 + 1 * 0 = 0; rw [i0]
  | ⟨1, _⟩ => show win0_6.index t 1 * 128 + 1 * e.val = e.val; rw [i1]; omega

end Cert.KernelIdeal.Own
-- ==== Proof.RefScore.lean ====
module

public import proofs.«01_k».proof.Proof.Gen.ReferenceIdeal.Read
public import proofs.«01_k».proof.Proof.Softmax
public import Idealize.ShloMosaic.Lib.Pointwise

@[expose] public section

/-! The reference's scores, maxima and exponentials, read at an index. -/

set_option maxRecDepth 16384

noncomputable section
namespace Cert.ReferenceIdeal.Own

open Cert.ReferenceIdeal Cert.ReferenceIdeal.Gen Cert.ReferenceIdeal.Read Cert.Soft
open Idealize.ShloMosaic Idealize.ShloMosaic.TcCoe Idealize.ShloMosaic.Tactic

/-- A latent array (queries, keys or values, eight batches of 4096 rows). -/
abbrev Lat := (⟨S8x4096x1024, .f32⟩ : BufTy).Contents (Elt Ideal)
/-- A context array (keys or values, eight batches of 256 rows). -/
abbrev Ctx := (⟨S8x256x1024, .f32⟩ : BufTy).Contents (Elt Ideal)
/-- One of the four vectors that make the subtraction weight. -/
abbrev Lam := (⟨S1x64, .f32⟩ : BufTy).Contents (Elt Ideal)

/-- A latent array followed by its context array: entry `z` of key `κ` in batch `b`. -/
def both (x : Lat) (xc : Ctx) (b : Fin 8) (κ : Fin 4352) (z : Fin 1024) : EReal :=
  if h : κ.val < 4096 then x (ix3 b ⟨κ.val, h⟩ z) else xc (ix3 b ⟨κ.val - 4096, by omega⟩ z)

/-- The column of head `h`, map `m`, lane `d`. -/
def col (h : Fin 8) (m : Fin 2) (d : Fin 64) : Fin 1024 := ⟨h.val * 128 + m.val * 64 + d.val, by omega⟩

/-- The score of query `r` against key `κ`. -/
def sc (x0 x1 : Lat) (x3 : Ctx) (b h : Fin 8) (m : Fin 2) (r : Fin 4096) (κ : Fin 4352) : EReal :=
  (∑ d : Fin 64, x0 (ix3 b r (col h m d)) * both x1 x3 b κ (col h m d)) * Ideal.ofBits .f32 0x3E000000#32

/-- The reference's score at an index. -/
theorem v21_at (x0 x1 : Lat) (x3 : Ctx) (b h : Fin 8) (m : Fin 2) (r : Fin 4096) (κ : Fin 4352) :
    val_main_v21 (F := Ideal) x0 x1 x3 (ix5 b h m r κ) = sc x0 x1 x3 b h m r κ := by
  pointwise [val_main_v21, val_main_v20, val_main_v19, val_main_v12, val_main_v15, val_main_v13, val_main_v14, val_main_cst_2]
  rfl

/-- The host's maximum over the last of five axes, from an initial value. -/
theorem host_max {a b c d n : ℕ} (x : FVec Ideal ⟨5, ![a, b, c, d, n]⟩ .f32) (z : FVec Ideal ⟨0, ![]⟩ .f32)
    (h' : (⟨5, ![a, b, c, d, n]⟩ : Shape).ReducesTo [4] (⟨4, ![a, b, c, d]⟩ : Shape)) (hu : 0 < (⟨0, ![]⟩ : Shape).numel)
    (i : Fin a) (j : Fin b) (k : Fin c) (l : Fin d) :
    Host.reduce FloatOps.maximumf x z h' hu (ix4 i j k l) = Finset.fold max (z (Shape.Idx.first hu)) (fun κ : Fin n => x (ix5 i j k l κ)) Finset.univ := by
  have h : (⟨5, ![a, b, c, d, n]⟩ : Shape).Reduces [4] (⟨4, ![a, b, c, d]⟩ : Shape) := ⟨h'.1, Nat.succ_pos 3, h'.2⟩
  rw [Host.reduce_eq_fold_single FloatOps.maximumf x _ h' h hu]
  have hf : (x ∘ h.lift (ix4 i j k l)) = fun κ : Fin n => x (ix5 i j k l κ) := funext fun κ => congrArg x (funext fun q => Fin.ext (by
    match q with
    | ⟨0, _⟩ => rfl
    | ⟨1, _⟩ => rfl
    | ⟨2, _⟩ => rfl
    | ⟨3, _⟩ => rfl
    | ⟨4, _⟩ => rfl))
  exact congrArg (fun f => Finset.fold max (z (Shape.Idx.first hu)) f (Finset.univ : Finset (Fin n))) hf

/-- A maximum folded from minus infinity, and once more with it, is the supremum. -/
theorem max_fold {n : ℕ} (f : Fin n → EReal) :
    max (Ideal.ofBits FTy.f32 0xFF800000#32) (Finset.fold max (Ideal.ofBits FTy.f32 0xFF800000#32) f Finset.univ) = Finset.univ.sup f := by
  have e : Ideal.ofBits .f32 0xFF800000#32 = ⊥ := by simp [Ideal.ofBits, Ideal.ieee]
  rw [e]
  exact bot_sup_eq _

/-- The host's maximum over the last of five axes from minus infinity, once more with it, is the supremum. -/
theorem host_sup {a b c d n : ℕ} (x : FVec Ideal ⟨5, ![a, b, c, d, n]⟩ .f32) (z : FVec Ideal ⟨0, ![]⟩ .f32)
    (h' : (⟨5, ![a, b, c, d, n]⟩ : Shape).ReducesTo [4] (⟨4, ![a, b, c, d]⟩ : Shape)) (hu : 0 < (⟨0, ![]⟩ : Shape).numel)
    (i : Fin a) (j : Fin b) (k : Fin c) (l : Fin d) (hz : z (Shape.Idx.first hu) = Ideal.ofBits FTy.f32 0xFF800000#32)
    (f : Fin n → EReal) (hf : ∀ κ, x (ix5 i j k l κ) = f κ) (y : EReal) (hy : y = Ideal.ofBits FTy.f32 0xFF800000#32) :
    max y (show Ideal .f32 from Host.reduce (FloatOps.maximumf : Ideal .f32 → Ideal .f32 → Ideal .f32) x z h' hu (ix4 i j k l)) = Finset.univ.sup f := by
  rw [hy, ← max_fold f, ← funext hf, ← hz]
  exact congrArg _ (host_max x z h' hu i j k l)

/-- The reference's row maximum. -/
theorem v24_at (x0 x1 : Lat) (x3 : Ctx) (b h : Fin 8) (m : Fin 2) (r : Fin 4096) :
    val_main_v24 (F := Ideal) x0 x1 x3 (ix4 b h m r) = Finset.univ.sup (sc x0 x1 x3 b h m r) := by
  rw [val_main_v24_apply]
  unfold val_main_v22
  exact host_sup _ _ reducesTo_S8x8x2x4096x4352_S8x8x2x4096_d4 h_S_ b h m r (val_main_cst_3_apply _) _ (v21_at x0 x1 x3 b h m r) _
    (by rw [val_main_v23_apply, val_main_cst_4_apply]; rfl)

/-- The reference's exponential. -/
theorem v28_at (x0 x1 : Lat) (x3 : Ctx) (b h : Fin 8) (m : Fin 2) (r : Fin 4096) (κ : Fin 4352) :
    val_main_v28 (F := Ideal) x0 x1 x3 (ix5 b h m r κ) = Ideal.exp (sc x0 x1 x3 b h m r κ - Finset.univ.sup (sc x0 x1 x3 b h m r)) := by
  rw [← v21_at, ← v24_at]
  pointwise [val_main_v28, val_main_v27, val_main_v26, val_main_v25]

end Cert.ReferenceIdeal.Own
-- ==== Proof.RefMix.lean ====
module

public import proofs.«01_k».proof.Proof.RefScore

@[expose] public section

/-! The reference's difference of the two maps' averages, read at an index. -/

set_option maxRecDepth 16384

noncomputable section
namespace Cert.ReferenceIdeal.Own

open Cert.ReferenceIdeal Cert.ReferenceIdeal.Gen Cert.ReferenceIdeal.Read Cert.Soft
open Idealize.ShloMosaic Idealize.ShloMosaic.TcCoe Idealize.ShloMosaic.Tactic

/-- The reference's values, the context's after the latent ones. -/
theorem v18_at (x2 : Lat) (x4 : Ctx) (b h : Fin 8) (κ : Fin 4352) (e : Fin 128) :
    val_main_v18 (F := Ideal) x2 x4 (ix4 b κ h e) = both x2 x4 b κ ⟨h.val * 128 + e.val, by omega⟩ := by
  pointwise [val_main_v18, val_main_v17, val_main_v16]
  rfl

/-- The reference's sum of weights. -/
theorem v29_at (x0 x1 : Lat) (x3 : Ctx) (b h : Fin 8) (m : Fin 2) (r : Fin 4096) :
    val_main_v29 (F := Ideal) x0 x1 x3 (ix4 b h m r) = ∑ κ : Fin 4352, val_main_v28 (F := Ideal) x0 x1 x3 (ix5 b h m r κ) := by
  have e0 : val_main_cst_5 (F := Ideal) (Shape.Idx.first h_S_) = 0 := by pointwise [val_main_cst_5]
  rw [val_main_v29_apply, e0, zero_add]
  refine Finset.sum_congr rfl fun κ _ => congrArg _ (funext fun a => ?_)
  match a with
  | ⟨0, _⟩ => rfl
  | ⟨1, _⟩ => rfl
  | ⟨2, _⟩ => rfl
  | ⟨3, _⟩ => rfl
  | ⟨4, _⟩ => rfl

/-- The reference's softmax. -/
theorem v32_at (x0 x1 : Lat) (x3 : Ctx) (b h : Fin 8) (m : Fin 2) (r : Fin 4096) (κ : Fin 4352) :
    val_main_v32 (F := Ideal) x0 x1 x3 (ix5 b h m r κ)
      = Ideal.div (val_main_v28 (F := Ideal) x0 x1 x3 (ix5 b h m r κ)) (∑ κ : Fin 4352, val_main_v28 (F := Ideal) x0 x1 x3 (ix5 b h m r κ)) := by
  rw [← v29_at, val_main_v32_apply, val_main_v31_apply, val_main_v30_apply]
  refine congrArg (Ideal.div _) (congrArg _ (funext fun a => ?_))
  match a with
  | ⟨0, _⟩ => rfl
  | ⟨1, _⟩ => rfl
  | ⟨2, _⟩ => rfl
  | ⟨3, _⟩ => rfl

/-- The mixed-radix digits of an entry's position in the array of one map. -/
theorem digits (b h : Fin 8) (r : Fin 4096) (κ : Fin 4352) :
    ((((b.val * 8 + h.val) * 4096 + r.val) * 4352 + κ.val) / 142606336 = b.val) ∧ ((((b.val * 8 + h.val) * 4096 + r.val) * 4352 + κ.val) / 17825792 % 8 = h.val)
      ∧ ((((b.val * 8 + h.val) * 4096 + r.val) * 4352 + κ.val) / 4352 % 4096 = r.val) ∧ ((((b.val * 8 + h.val) * 4096 + r.val) * 4352 + κ.val) % 4352 = κ.val) := by
  omega

/-- The first map's softmax. -/
theorem v34_at (x0 x1 : Lat) (x3 : Ctx) (b h : Fin 8) (r : Fin 4096) (κ : Fin 4352) :
    val_main_v34 (F := Ideal) x0 x1 x3 (ix4 b h r κ) = val_main_v32 (F := Ideal) x0 x1 x3 (ix5 b h 0 r κ) := by
  obtain ⟨d0, d1, d3, d4⟩ := digits b h r κ
  rw [val_main_v34_apply, val_main_v33_apply]
  refine congrArg _ (funext fun a => Fin.ext ?_)
  match a with
  | ⟨0, _⟩ => exact d0
  | ⟨1, _⟩ => exact d1
  | ⟨2, _⟩ => rfl
  | ⟨3, _⟩ => exact d3
  | ⟨4, _⟩ => exact d4

/-- The second map's softmax. -/
theorem v36_at (x0 x1 : Lat) (x3 : Ctx) (b h : Fin 8) (r : Fin 4096) (κ : Fin 4352) :
    val_main_v36 (F := Ideal) x0 x1 x3 (ix4 b h r κ) = val_main_v32 (F := Ideal) x0 x1 x3 (ix5 b h 1 r κ) := by
  obtain ⟨d0, d1, d3, d4⟩ := digits b h r κ
  rw [val_main_v36_apply, val_main_v35_apply]
  refine congrArg _ (funext fun a => Fin.ext ?_)
  match a with
  | ⟨0, _⟩ => exact d0
  | ⟨1, _⟩ => exact d1
  | ⟨2, _⟩ => rfl
  | ⟨3, _⟩ => exact d3
  | ⟨4, _⟩ => exact d4

/-- The reference's difference of the two maps. -/
theorem v39_at (x0 x1 : Lat) (x3 : Ctx) (x5 x6 x7 x8 : Lam) (b h : Fin 8) (r : Fin 4096) (κ : Fin 4352) :
    val_main_v39 (F := Ideal) x0 x1 x3 x5 x6 x7 x8 (ix4 b h r κ)
      = Ideal.div (val_main_v28 (F := Ideal) x0 x1 x3 (ix5 b h 0 r κ)) (∑ κ : Fin 4352, val_main_v28 (F := Ideal) x0 x1 x3 (ix5 b h 0 r κ))
        - val_main_v11 (F := Ideal) x5 x6 x7 x8 ix0
          * Ideal.div (val_main_v28 (F := Ideal) x0 x1 x3 (ix5 b h 1 r κ)) (∑ κ : Fin 4352, val_main_v28 (F := Ideal) x0 x1 x3 (ix5 b h 1 r κ)) := by
  rw [← v32_at, ← v32_at, ← v34_at, ← v36_at, val_main_v39_apply, val_main_v38_apply, val_main_v37_apply]
  have e : idx_main_v37 (ix4 b h r κ) = ix0 := funext fun a => a.elim0
  rw [e]
  rfl

/-- The reference's weighted sum of the values. -/
theorem v41_at (x0 x1 x2 : Lat) (x3 x4 : Ctx) (x5 x6 x7 x8 : Lam) (b h : Fin 8) (r : Fin 4096) (e : Fin 128) :
    val_main_v41 (F := Ideal) x0 x1 x2 x3 x4 x5 x6 x7 x8 (ix4 b r h e)
      = ∑ κ : Fin 4352, both x2 x4 b κ ⟨h.val * 128 + e.val, by omega⟩ * val_main_v39 (F := Ideal) x0 x1 x3 x5 x6 x7 x8 (ix4 b h r κ) := by
  rw [val_main_v41_apply, val_main_v40_apply]
  refine Finset.sum_congr rfl fun κ _ => ?_
  rw [← v18_at]
  congr 2 <;> (funext a; match a with | ⟨0, _⟩ => rfl | ⟨1, _⟩ => rfl | ⟨2, _⟩ => rfl | ⟨3, _⟩ => rfl)

end Cert.ReferenceIdeal.Own
-- ==== Proof.RefOut.lean ====
module

public import proofs.«01_k».proof.Proof.RefScore

@[expose] public section

/-! The reference's result and its subtraction weight, read at an index. -/

set_option maxRecDepth 16384

noncomputable section
namespace Cert.ReferenceIdeal.Own

open Cert.ReferenceIdeal Cert.ReferenceIdeal.Gen Cert.ReferenceIdeal.Read Cert.Soft
open Idealize.ShloMosaic Idealize.ShloMosaic.TcCoe Idealize.ShloMosaic.Tactic

/-- The reference's result: each head's row scaled. -/
theorem v59_at (x0 x1 x2 : Lat) (x3 x4 : Ctx) (x5 x6 x7 x8 : Lam) (x9 : (⟨S1x128, .f32⟩ : BufTy).Contents (Elt Ideal)) (b : Fin 8) (r : Fin 4096) (z : Fin 1024) :
    val_main_v59 (F := Ideal) x0 x1 x2 x3 x4 x5 x6 x7 x8 x9 (ix3 b r z)
      = (fun (o : Fin 128 → EReal) (e : Fin 128) => o e * Ideal.rsqrt (Ideal.div (∑ i, o i * o i) (Ideal.ofBits .f32 0x43000000#32) + Ideal.ofBits .f32 0x358637BD#32) * x9 (ix2 0 e)
          * Ideal.ofBits .f32 0x3F4CCCCD#32)
        (fun e => val_main_v41 (F := Ideal) x0 x1 x2 x3 x4 x5 x6 x7 x8 (ix4 b r ⟨z.val / 128, by omega⟩ e)) ⟨z.val % 128, by omega⟩ := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_cst_6, val_main_cst_7, val_main_cst_8, val_main_cst_9]

/-- The reference's subtraction weight. -/
theorem v11_at (x5 x6 x7 x8 : Lam) : val_main_v11 (F := Ideal) x5 x6 x7 x8 ix0
    = Ideal.exp (∑ x, x5 (ix2 0 x) * x6 (ix2 0 x)) - Ideal.exp (∑ x, x7 (ix2 0 x) * x8 (ix2 0 x)) + Ideal.ofBits .f32 0x3E4CCCCD#32 := by
  pointwise [val_main_v11, val_main_v10, val_main_v9, val_main_v8, val_main_v7, val_main_v6, val_main_v5, val_main_v4, val_main_v3, val_main_v2, val_main_v1, val_main_v0, val_main_cst, val_main_cst_0, val_main_cst_1]

end Cert.ReferenceIdeal.Own
-- ==== Proof.RefSum.lean ====
module

public import proofs.«01_k».proof.Proof.RefMix
public import proofs.«01_k».proof.Proof.RefOut
public import proofs.«01_k».proof.Proof.Final

@[expose] public section

/-! The reference's result at an index, as a scaled row of mixed values. -/

set_option maxRecDepth 16384

noncomputable section
namespace Cert.ReferenceIdeal.Own

open Cert.ReferenceIdeal Cert.ReferenceIdeal.Gen Cert.ReferenceIdeal.Read Cert.Soft
open Idealize.ShloMosaic Idealize.ShloMosaic.TcCoe Idealize.ShloMosaic.Tactic
open Cert.KernelIdeal.Own (scaled mixed expo)

/-- The reference's averaged difference of maps, at an index. -/
theorem mix_at (x0 x1 x2 : Lat) (x3 x4 : Ctx) (x5 x6 x7 x8 : Lam) (b h : Fin 8) (r : Fin 4096) (e : Fin 128) :
    val_main_v41 (F := Ideal) x0 x1 x2 x3 x4 x5 x6 x7 x8 (ix4 b r h e)
      = mixed (sc x0 x1 x3 b h 0 r) (sc x0 x1 x3 b h 1 r) (fun κ j => both x2 x4 b κ ⟨h.val * 128 + j.val, by omega⟩)
          (val_main_v11 (F := Ideal) x5 x6 x7 x8 ix0) e := by
  have e28 : ∀ m κ, val_main_v28 (F := Ideal) x0 x1 x3 (ix5 b h m r κ) = expo (sc x0 x1 x3 b h m r) κ := fun m κ => v28_at ..
  rw [v41_at]
  unfold mixed
  refine Finset.sum_congr rfl fun κ _ => ?_
  rw [v39_at]
  simp only [e28]

/-- The reference's result at an index. -/
theorem out_at (x0 x1 x2 : Lat) (x3 x4 : Ctx) (x5 x6 x7 x8 : Lam) (x9 : (⟨S1x128, .f32⟩ : BufTy).Contents (Elt Ideal)) (b : Fin 8) (r : Fin 4096) (z : Fin 1024)
    (h : Fin 8) (e : Fin 128) (hz : z.val = h.val * 128 + e.val) :
    val_main_v59 (F := Ideal) x0 x1 x2 x3 x4 x5 x6 x7 x8 x9 (ix3 b r z)
      = scaled (mixed (sc x0 x1 x3 b h 0 r) (sc x0 x1 x3 b h 1 r) (fun κ j => both x2 x4 b κ ⟨h.val * 128 + j.val, by omega⟩)
          (val_main_v11 (F := Ideal) x5 x6 x7 x8 ix0)) (fun e => x9 (ix2 0 e)) e := by
  rw [v59_at]
  have hh : (⟨z.val / 128, by omega⟩ : Fin 8) = h := Fin.ext (by show z.val / 128 = h.val; omega)
  have he : (⟨z.val % 128, by omega⟩ : Fin 128) = e := Fin.ext (by show z.val % 128 = e.val; omega)
  rw [hh, he]
  have hm : (fun e => val_main_v41 (F := Ideal) x0 x1 x2 x3 x4 x5 x6 x7 x8 (ix4 b r h e))
      = mixed (sc x0 x1 x3 b h 0 r) (sc x0 x1 x3 b h 1 r) (fun κ j => both x2 x4 b κ ⟨h.val * 128 + j.val, by omega⟩)
          (val_main_v11 (F := Ideal) x5 x6 x7 x8 ix0) := funext fun e => mix_at ..
  rw [hm]
  rfl

end Cert.ReferenceIdeal.Own
-- ==== Proof.Whole.lean ====
module

public import proofs.«01_k».proof.Proof.Blocks
public import proofs.«01_k».proof.Proof.RefSum

@[expose] public section

/-! The kernel's whole result array is the reference's, when the values and the subtraction weight are real numbers. -/

set_option maxRecDepth 16384

noncomputable section
namespace Cert.KernelIdeal.Own

open Cert.KernelIdeal Cert.KernelIdeal.Gen Cert.Soft
open Idealize.ShloMosaic Idealize.ShloMosaic.TcCoe Idealize.ShloMosaic.Tactic Idealize.SL.Sem
open Cert.ReferenceIdeal.Own (Lat Ctx Lam both col sc)
open Cert.ReferenceIdeal.Read (val_main_v59 val_main_v11)

/-- Keys or values of a grid point, latent then context, as entries of the arrays. -/
theorem joined_both (x : Vec Ideal S1x4096x128 .bf16) (xc : Vec Ideal S1x256x128 .bf16) (X : Lat) (XC : Ctx) (b h : Fin 8)
    (hx : ∀ r l, x (ix3 0 r l) = X (ix3 b r (lane h l))) (hc : ∀ r l, xc (ix3 0 r l) = XC (ix3 b r (lane h l))) (κ : Fin 4352) (l : Fin 128) :
    joined x xc κ l = both X XC b κ (lane h l) := by
  unfold joined both
  split
  · exact hx _ _
  · exact hc _ _

/-- One entry of a block the kernel makes is the reference's entry. -/
theorem entry (q : Vec Ideal S1x4096x128 .f32) (k v : Vec Ideal S1x4096x128 .bf16) (kc vc : Vec Ideal S1x256x128 .bf16) (lam : EReal) (g : Vec Ideal S1x128 .f32)
    (X0 X1 X2 : Lat) (X3 X4 : Ctx) (X5 X6 X7 X8 : Lam) (X9 : (⟨S1x128, .f32⟩ : BufTy).Contents (Elt Ideal)) (b h : Fin 8)
    (hq : ∀ r l, q (ix3 0 r l) = X0 (ix3 b r (lane h l))) (hk : ∀ r l, k (ix3 0 r l) = X1 (ix3 b r (lane h l)))
    (hv : ∀ r l, v (ix3 0 r l) = X2 (ix3 b r (lane h l))) (hkc : ∀ r l, kc (ix3 0 r l) = X3 (ix3 b r (lane h l)))
    (hvc : ∀ r l, vc (ix3 0 r l) = X4 (ix3 b r (lane h l))) (hlam : lam = lamOf X5 X6 X7 X8) (hg : ∀ e, g (ix2 0 e) = X9 (ix2 0 e))
    (rv : ∀ κ z, ∃ u : ℝ, both X2 X4 b κ z = u) (rl : ∃ u : ℝ, lamOf X5 X6 X7 X8 = u) (r : Fin 4096) (e : Fin 128) :
    k0_pay1 lam (Run.final q k v kc vc).a0 (Run.final q k v kc vc).a1 g (ix3 0 r e)
      = val_main_v59 (F := Ideal) X0 X1 X2 X3 X4 X5 X6 X7 X8 X9 (ix3 b r (lane h e)) := by
  obtain ⟨u, hu⟩ := rl
  have rv' : ∀ (κ : Fin 4352) (j : Fin 128), ∃ w : ℝ, both X2 X4 b κ (lane h j) = w := fun κ j => rv κ _
  choose w hw using rv'
  have jk := joined_both k kc X1 X3 b h hk hkc
  have jv := joined_both v vc X2 X4 b h hv hvc
  have h0 : ∀ κ, score (k0_pay11 q) k kc r κ = (((Real.log 2)⁻¹ : ℝ) : EReal) * sc X0 X1 X3 b h 0 r κ := fun κ => by
    rw [score_first]
    unfold sc
    refine congrArg (fun s => _ * (s * _)) (Finset.sum_congr rfl fun d _ => ?_)
    have ec : lane h ⟨d.val, by omega⟩ = col h 0 d := Fin.ext (by show h.val * 128 + d.val = h.val * 128 + 0 * 64 + d.val; omega)
    rw [hq, jk, ec]
  have h1 : ∀ κ, score (k0_pay12 q) k kc r κ = (((Real.log 2)⁻¹ : ℝ) : EReal) * sc X0 X1 X3 b h 1 r κ := fun κ => by
    rw [score_second]
    unfold sc
    refine congrArg (fun s => _ * (s * _)) (Finset.sum_congr rfl fun d _ => ?_)
    have ec : lane h ⟨64 + d.val, by omega⟩ = col h 1 d := Fin.ext (by show h.val * 128 + (64 + d.val) = h.val * 128 + 1 * 64 + d.val; omega)
    rw [hq, jk, ec]
  have e11 : val_main_v11 (F := Ideal) X5 X6 X7 X8 ix0 = (u : EReal) := (Cert.ReferenceIdeal.Own.v11_at X5 X6 X7 X8).trans hu
  have ew : (fun (κ : Fin 4352) (j : Fin 128) => both X2 X4 b κ ⟨h.val * 128 + j.val, by omega⟩) = fun κ j => ((w κ j : ℝ) : EReal) := funext fun κ => funext fun j => hw κ j
  have eg : (fun e => g (ix2 0 e)) = fun e => X9 (ix2 0 e) := funext hg
  rw [hlam, hu, block_at q k v kc vc u g r e _ _ w (fun κ j => (jv κ j).trans (hw κ j)) h0 h1,
    Cert.ReferenceIdeal.Own.out_at X0 X1 X2 X3 X4 X5 X6 X7 X8 X9 b r (lane h e) h e rfl, e11, ew, eg]

variable (m : (ℓ : Loc nD τ sig) → Buf (Elt Ideal) ℓ) (c : Dev nD)

/-- The reference's result of the arguments in the kernel's memory. -/
def answer : Buf (Elt Ideal) ((c : Thread nD τ).loc main_v19) :=
  val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- The numbers the claim needs to be real: the values, the context values and the subtraction weight. -/
def Tame : Prop :=
  (∀ b κ z, ∃ u : ℝ, both (m ((c : Thread nD τ).loc main_arg2)) (m ((c : Thread nD τ).loc main_arg4)) b κ z = u)
  ∧ ∃ u : ℝ, lamOf (m ((c : Thread nD τ).loc main_arg5)) (m ((c : Thread nD τ).loc main_arg6)) (m ((c : Thread nD τ).loc main_arg7)) (m ((c : Thread nD τ).loc main_arg8)) = u

/-- What a grid point writes back is that block of the reference's result. -/
theorem flushed_eq (hm : Tame m c) (t : Fin cfg0.N) :
    (dats m 0 c).flushed 7 t = ((cfg0.win 7).blk t).view.read (Elt Ideal) (answer m c) := by
  obtain ⟨i0, i1, i2⟩ := index_out t
  rw [Value.flushed7_A, out_eq]
  funext j
  rw [View.read_apply]
  obtain ⟨r, e, rfl⟩ : ∃ (r : Fin 4096) (e : Fin 128), j = ix3 (0 : Fin 1) r e := by
    refine ⟨j 1, j 2, funext fun a => ?_⟩
    match a with
    | ⟨0, _⟩ => exact Subsingleton.elim (α := Fin 1) _ _
    | ⟨1, _⟩ => rfl
    | ⟨2, _⟩ => rfl
  refine (entry (iblk m c 1 t) (iblk m c 2 t) (iblk m c 3 t) (iblk m c 4 t) (iblk m c 5 t) _ (iblk m c 6 t) _ _ _ _ _ _ _ _ _ _ (batch t) (head t)
    (q_at m c t) (k_at m c t) (v_at m c t) (kc_at m c t) (vc_at m c t) (lam_at m c t) (g_at m c t) (fun κ z => hm.1 _ κ z) hm.2 r e).trans ?_
  show answer m c _ = answer m c _
  refine congrArg _ (funext fun a => Fin.ext ?_)
  match a with
  | ⟨0, _⟩ => show t.val / 8 = win0_7.index t 0 * 1 + 1 * 0; rw [i0]; omega
  | ⟨1, _⟩ => show r.val = win0_7.index t 1 * 4096 + 1 * r.val; rw [i1]; omega
  | ⟨2, _⟩ => show t.val % 8 * 128 + e.val = win0_7.index t 2 * 128 + 1 * e.val; rw [i2]; omega

/-- The output's blocks lie wholly inside the array. -/
theorem size_out : ∀ t : Fin cfg0.N, win0_7.xsize (grid0.coords t) 0 = 1 ∧ win0_7.xsize (grid0.coords t) 1 = 4096 ∧ win0_7.xsize (grid0.coords t) 2 = 128 :=
  (by decide +kernel : ∀ t : Fin grid0.N, win0_7.xsize (grid0.coords t) 0 = 1 ∧ win0_7.xsize (grid0.coords t) 1 = 4096 ∧ win0_7.xsize (grid0.coords t) 2 = 128)
/-- Every grid point writes its block back. -/
theorem flush_out : ∀ t : Fin cfg0.N, (cfg0.win 7).flush t = true :=
  (by decide +kernel : ∀ t : Fin grid0.N, win0_7.flush t = true)

/-- The result array ends as the reference's result. -/
theorem final_out (hm : Tame m c) : (dats m 0 c).arrAt 7 cfg0.N = answer m c :=
  (dats m 0 c).arrAt_eq_of_cover 7 (answer m c) (fun t _ => flushed_eq m c hm t) fun i => by
    have h0 : (i 0 : Nat) < 8 := (i 0).isLt
    have h1 : (i 1 : Nat) < 4096 := (i 1).isLt
    have h2 : (i 2 : Nat) < 1024 := (i 2).isLt
    have hN : cfg0.N = 64 := N_0
    have ht : (i 0 : Nat) * 8 + (i 2 : Nat) / 128 < cfg0.N := by rw [hN]; omega
    obtain ⟨i0, i1, i2⟩ := index_out ⟨_, ht⟩
    obtain ⟨s0, s1, s2⟩ := size_out ⟨_, ht⟩
    refine ⟨⟨_, ht⟩, flush_out _, ?_⟩
    show i ∈ ((View.whole main_v19).slice (win0_7.rect ⟨_, ht⟩)).set
    rw [View.set_slice_whole, Rect.mem_set_unit]
    intro a
    match a with
    | ⟨0, _⟩ =>
      show win0_7.index ⟨_, ht⟩ 0 * 1 ≤ (i 0 : Nat) ∧ (i 0 : Nat) < win0_7.index ⟨_, ht⟩ 0 * 1 + win0_7.xsize (grid0.coords ⟨_, ht⟩) 0
      rw [i0, s0]; dsimp only; omega
    | ⟨1, _⟩ =>
      show win0_7.index ⟨_, ht⟩ 1 * 4096 ≤ (i 1 : Nat) ∧ (i 1 : Nat) < win0_7.index ⟨_, ht⟩ 1 * 4096 + win0_7.xsize (grid0.coords ⟨_, ht⟩) 1
      rw [i1, s1]; omega
    | ⟨2, _⟩ =>
      show win0_7.index ⟨_, ht⟩ 2 * 128 ≤ (i 2 : Nat) ∧ (i 2 : Nat) < win0_7.index ⟨_, ht⟩ 2 * 128 + win0_7.xsize (grid0.coords ⟨_, ht⟩) 2
      rw [i2, s2]; dsimp only; omega

end Cert.KernelIdeal.Own
-- ==== Proof.Tame.lean ====
module

public import proofs.«01_k».proof.Proof.Whole
public import proofs.«01_k».proof.Defs

@[expose] public section

/-! What the precondition gives: the values, the context values and the subtraction weight are real numbers. -/

set_option maxRecDepth 16384

noncomputable section
namespace Cert.KernelIdeal.Own

open Cert.KernelIdeal Cert.KernelIdeal.Gen Cert.Soft
open Idealize.ShloMosaic Idealize.ShloMosaic.TcCoe Idealize.ShloMosaic.Tactic Idealize.SL.Sem
open Cert.ReferenceIdeal.Own (Lat Ctx Lam both)

/-- The precondition's shape relations. -/
theorem preFacts : Cert.Pre_finite.Facts := ⟨by decide, by decide, by decide⟩

/-- A number whose absolute value is below infinity is real. -/
theorem real_of_below (x : EReal) (h : FloatOps.cmpf (F := Ideal) (φ := .f32) .olt (FloatOps.hostAbsf (F := Ideal) (φ := .f32) x) (Ideal.ofBits .f32 0x7F800000#32) = 1#1) : ∃ u : ℝ, x = u := by
  have htop : Ideal.ofBits .f32 0x7F800000#32 = ⊤ := by simp [Ideal.ofBits, Ideal.ieee]
  rw [htop] at h
  induction x with
  | bot => exact absurd h (by show Ideal.cmp .olt (max (⊥ : EReal) (-(⊥ : EReal))) ⊤ ≠ 1#1; simp [Ideal.cmp])
  | top => exact absurd h (by show Ideal.cmp .olt (max (⊤ : EReal) (-(⊤ : EReal))) ⊤ ≠ 1#1; simp [Ideal.cmp])
  | coe u => exact ⟨u, rfl⟩

/-- A finite sum of products of reals is real. -/
theorem sum_real (f g : Fin 64 → EReal) (hf : ∀ i, ∃ u : ℝ, f i = u) (hg : ∀ i, ∃ u : ℝ, g i = u) : ∃ u : ℝ, ∑ i, f i * g i = u := by
  choose a ha using hf
  choose b hb using hg
  refine ⟨∑ i, a i * b i, ?_⟩
  simp only [ha, hb, ← EReal.coe_mul]
  exact sum_coe _ _

/-- The word the subtraction weight ends with is a real number. -/
theorem lit_fifth : ∃ u : ℝ, Ideal.ofBits .f32 0x3E4CCCCD#32 = (u : EReal) := ⟨_, rfl⟩

/-- The subtraction weight of real vectors is real. -/
theorem lam_real (x5 x6 x7 x8 : Lam) (h5 : ∀ i, ∃ u : ℝ, x5 i = u) (h6 : ∀ i, ∃ u : ℝ, x6 i = u) (h7 : ∀ i, ∃ u : ℝ, x7 i = u) (h8 : ∀ i, ∃ u : ℝ, x8 i = u) :
    ∃ u : ℝ, lamOf x5 x6 x7 x8 = u := by
  obtain ⟨s, hs⟩ := sum_real (fun x => x5 (ix2 0 x)) (fun x => x6 (ix2 0 x)) (fun x => h5 _) (fun x => h6 _)
  obtain ⟨t, ht⟩ := sum_real (fun x => x7 (ix2 0 x)) (fun x => x8 (ix2 0 x)) (fun x => h7 _) (fun x => h8 _)
  obtain ⟨l, hl⟩ := lit_fifth
  refine ⟨Real.exp s - Real.exp t + l, ?_⟩
  unfold lamOf
  rw [hs, ht, hl]
  rfl

/-- The precondition makes the kernel's numbers tame. -/
theorem tame_of_pre (m : (ℓ : Loc nD τ sig) → Buf (Elt Ideal) ℓ) (h : Cert.Pre_KernelIdeal_finite (hPre_finite := preFacts) m) (c : Dev nD) : Tame m c := by
  obtain ⟨h2, h4, h5, h6, h7, h8⟩ := h c
  have r2 : ∀ i, ∃ u : ℝ, (m ((c : Thread nD τ).loc main_arg2) : Lat) i = (u : EReal) := fun i => real_of_below _ (congrFun h2 i)
  have r4 : ∀ i, ∃ u : ℝ, (m ((c : Thread nD τ).loc main_arg4) : Ctx) i = (u : EReal) := fun i => real_of_below _ (congrFun h4 i)
  have r5 : ∀ i, ∃ u : ℝ, (m ((c : Thread nD τ).loc main_arg5) : Lam) i = (u : EReal) := fun i => real_of_below _ (congrFun h5 i)
  have r6 : ∀ i, ∃ u : ℝ, (m ((c : Thread nD τ).loc main_arg6) : Lam) i = (u : EReal) := fun i => real_of_below _ (congrFun h6 i)
  have r7 : ∀ i, ∃ u : ℝ, (m ((c : Thread nD τ).loc main_arg7) : Lam) i = (u : EReal) := fun i => real_of_below _ (congrFun h7 i)
  have r8 : ∀ i, ∃ u : ℝ, (m ((c : Thread nD τ).loc main_arg8) : Lam) i = (u : EReal) := fun i => real_of_below _ (congrFun h8 i)
  refine ⟨fun b κ z => ?_, lam_real _ _ _ _ r5 r6 r7 r8⟩
  unfold both
  split
  · exact r2 _
  · exact r4 _

end Cert.KernelIdeal.Own
-- ==== Proof.InRow.lean ====
module

public import Idealize.ShloMosaic.PureOps.Ideal.Laws

@[expose] public section

/-! The projection's arithmetic on one row, as plain functions: the modulated norm, a product with a matrix's column, the rotation and the three-tap sum. -/

noncomputable section
namespace Cert.In

open Idealize.ShloMosaic

/-- A row divided by its root mean square, times a gain, times one plus a scale, plus a shift. -/
def normRow (x g sh sc : Fin 1024 → EReal) (d : Fin 1024) : EReal :=
  x d * Ideal.rsqrt (Ideal.div (∑ i, x i * x i) (Ideal.ofBits .f32 0x44800000#32) + Ideal.ofBits .f32 0x358637BD#32) * g d
    * (Ideal.ofBits .f32 0x3F800000#32 + sc d) + sh d

/-- A row times a column of a matrix. -/
def proj (h : Fin 1024 → EReal) (w : Fin 1024 → Fin 8192 → EReal) (j : Fin 8192) : EReal := ∑ d, h d * w d j

/-- The entry 16 places away inside the same group of 32. -/
def mate (p : Fin 1024 → EReal) (j : Fin 1024) : EReal :=
  if h : j.val % 32 < 16 then p ⟨j.val + 16, by omega⟩ else p ⟨j.val - 16, by omega⟩

/-- An entry times its cosine plus its mate times its signed sine. -/
def rot (p : Fin 1024 → EReal) (cs sn : Fin 128 → EReal) (j : Fin 1024) : EReal :=
  p j * cs ⟨j.val % 128, by omega⟩ + mate p j * sn ⟨j.val % 128, by omega⟩

/-- Three neighbours times three weights, plus a bias. -/
def taps (a b c w0 w1 w2 β : EReal) : EReal := a * w0 + b * w1 + c * w2 + β

end Cert.In
-- ==== Proof.InRef.lean ====
module

public import proofs.«01_k».proof.Proof.InRow
public import proofs.«01_k».proof.Proof.Gen.Reference2Ideal.Read
public import Idealize.ShloMosaic.Lib.Pointwise

@[expose] public section

/-! The reference projection's five results, read at an index. -/

set_option maxRecDepth 16384

noncomputable section
namespace Cert.Reference2Ideal.Own

open Cert.Reference2Ideal Cert.Reference2Ideal.Gen Cert.Reference2Ideal.Read Cert.In
open Idealize.ShloMosaic Idealize.ShloMosaic.TcCoe Idealize.ShloMosaic.Tactic

/-- The latent array. -/
abbrev Xs := (⟨S8x4096x1024, .f32⟩ : BufTy).Contents (Elt Ideal)
/-- A batch's shift or scale. -/
abbrev Mod := (⟨S8x1x1024, .f32⟩ : BufTy).Contents (Elt Ideal)
/-- The norm's gain. -/
abbrev Gain := (⟨S1x1024, .f32⟩ : BufTy).Contents (Elt Ideal)
/-- The projection's weights. -/
abbrev Wts := (⟨S1x1024x8192, .f32⟩ : BufTy).Contents (Elt Ideal)
/-- The taps' weights. -/
abbrev Tap := (⟨S1x3x3072, .f32⟩ : BufTy).Contents (Elt Ideal)
/-- The taps' bias. -/
abbrev Bias := (⟨S1x3072, .f32⟩ : BufTy).Contents (Elt Ideal)

variable (x0 : Xs) (x1 x2 : Mod) (x3 : Gain) (x4 : Wts) (x5 : Tap) (x6 : Bias) (b : Fin 8) (l : Fin 4096)

/-- A normalised row. -/
def hrow (d : Fin 1024) : EReal := normRow (fun d => x0 (ix3 b l d)) (fun d => x3 (ix2 0 d)) (fun d => x1 (ix3 b 0 d)) (fun d => x2 (ix3 b 0 d)) d

/-- A row's projection. -/
def prow (j : Fin 8192) : EReal := proj (hrow x0 x1 x2 x3 b l) (fun d j => x4 (ix3 0 d j)) j

/-- The reference's normalised row. -/
theorem v56_at (d : Fin 1024) : val_main_v56 (F := Ideal) x0 x1 x2 x3 (ix3 b l d) = hrow x0 x1 x2 x3 b l d := by
  unfold hrow normRow
  pointwise [val_main_v56, val_main_v54, val_main_v50, val_main_v46, val_main_v45, val_main_v44, val_main_v43, val_main_v41, val_main_v39, val_main_v38, val_main_v37, val_main_v40, val_main_cst_4, val_main_v42, val_main_cst_5, val_main_v49, val_main_v48, val_main_v47, val_main_v53, val_main_v52, val_main_v51, val_main_cst_6, val_main_v55, val_main_cst_3]

/-- The reference's projection. -/
theorem v58_at (j : Fin 8192) : val_main_v58 (F := Ideal) x0 x1 x2 x3 x4 (ix3 b l j) = prow x0 x1 x2 x3 x4 b l j := by
  unfold prow proj
  rw [val_main_v58_apply]
  refine Finset.sum_congr rfl fun d _ => ?_
  rw [← v56_at]
  refine congrArg₂ (· * ·) (congrArg _ (funext fun a => ?_)) ?_
  · match a with
    | ⟨0, _⟩ => rfl
    | ⟨1, _⟩ => rfl
    | ⟨2, _⟩ => rfl
  · pointwise [val_main_v57]
    rfl

/-- The cosine of a row's lane. -/
def cosAt (e : Fin 128) : EReal := Ideal.cos (val_main_v31 (F := Ideal) (ix3 l ⟨e.val % 64 / 32, by omega⟩ ⟨e.val % 16, by omega⟩))

/-- The signed sine of a row's lane. -/
def sinAt (e : Fin 128) : EReal :=
  if e.val % 32 < 16 then -Ideal.sin (val_main_v31 (F := Ideal) (ix3 l ⟨e.val % 64 / 32, by omega⟩ ⟨e.val % 16, by omega⟩))
  else Ideal.sin (val_main_v31 (F := Ideal) (ix3 l ⟨e.val % 64 / 32, by omega⟩ ⟨e.val % 16, by omega⟩))

/-- The reference's angle. -/
theorem v34_at (g : Fin 32) (f : Fin 16) : val_main_v34 (F := Ideal) (ix3 l g f) = val_main_v31 (F := Ideal) (ix3 l ⟨g.val % 2, by omega⟩ f) := by
  pointwise [val_main_v34, val_main_v33, val_main_v32]

/-- The keys before the rotation. -/
theorem v60_at (g : Fin 32) (h : Fin 2) (f : Fin 16) : val_main_v60 (F := Ideal) x0 x1 x2 x3 x4 (ix5 b l g h f)
    = prow x0 x1 x2 x3 x4 b l ⟨0 + (g.val * 32 + h.val * 16 + f.val), by omega⟩ := by
  rw [← v58_at]
  pointwise [val_main_v60, val_main_v59]

/-- The keys' first half of a rotation. -/
theorem v71_at (g : Fin 32) (f : Fin 16) : val_main_v71 (F := Ideal) x0 x1 x2 x3 x4 (ix4 b l g f)
    = val_main_v60 (F := Ideal) x0 x1 x2 x3 x4 (ix5 b l g 0 f) * Ideal.cos (val_main_v34 (F := Ideal) (ix3 l g f))
      - val_main_v60 (F := Ideal) x0 x1 x2 x3 x4 (ix5 b l g 1 f) * Ideal.sin (val_main_v34 (F := Ideal) (ix3 l g f)) := by
  pointwise [val_main_v71, val_main_v67, val_main_v62, val_main_v61, val_main_v66, val_main_v65, val_main_v35, val_main_v70, val_main_v64, val_main_v63, val_main_v69, val_main_v68, val_main_v36]

/-- The keys' second half of a rotation. -/
theorem v78_at (g : Fin 32) (f : Fin 16) : val_main_v78 (F := Ideal) x0 x1 x2 x3 x4 (ix4 b l g f)
    = val_main_v60 (F := Ideal) x0 x1 x2 x3 x4 (ix5 b l g 1 f) * Ideal.cos (val_main_v34 (F := Ideal) (ix3 l g f))
      + val_main_v60 (F := Ideal) x0 x1 x2 x3 x4 (ix5 b l g 0 f) * Ideal.sin (val_main_v34 (F := Ideal) (ix3 l g f)) := by
  pointwise [val_main_v78, val_main_v74, val_main_v62, val_main_v61, val_main_v73, val_main_v72, val_main_v35, val_main_v77, val_main_v64, val_main_v63, val_main_v76, val_main_v75, val_main_v36]

/-- The keys' two halves side by side. -/
theorem v81_at (g : Fin 32) (h : Fin 2) (f : Fin 16) : val_main_v81 (F := Ideal) x0 x1 x2 x3 x4 (ix5 b l g h f)
    = if _ : h.val < 1 then val_main_v71 (F := Ideal) x0 x1 x2 x3 x4 (ix4 b l g f) else val_main_v78 (F := Ideal) x0 x1 x2 x3 x4 (ix4 b l g f) := by
  pointwise [val_main_v81, val_main_v79, val_main_v80]

/-- The keys' result in groups. -/
theorem v82_groups (j : Fin 1024) : val_main_v82 (F := Ideal) x0 x1 x2 x3 x4 (ix3 b l j)
    = val_main_v81 (F := Ideal) x0 x1 x2 x3 x4 (ix5 b l ⟨j.val / 32, by omega⟩ ⟨j.val / 16 % 2, by omega⟩ ⟨j.val % 16, by omega⟩) := by
  pointwise [val_main_v82]

/-- The keys: the rotated projection. -/
theorem v135_at (j : Fin 1024) : val_main_v135 (F := Ideal) x0 x1 x2 x3 x4 (ix3 b l j)
    = rot (fun j => prow x0 x1 x2 x3 x4 b l ⟨0 + j.val, by omega⟩) (cosAt l) (sinAt l) j := by
  rw [val_main_v135_apply]
  show val_main_v82 (F := Ideal) x0 x1 x2 x3 x4 (ix3 b l j) = _
  rw [v82_groups, v81_at]
  have eA : ∀ (h1 : j.val / 32 % 2 < 2) (h2 : j.val % 16 < 16) (h3 : j.val % 128 % 64 / 32 < 2) (h4 : j.val % 128 % 16 < 16),
      val_main_v31 (F := Ideal) (ix3 l ⟨j.val / 32 % 2, h1⟩ ⟨j.val % 16, h2⟩) = val_main_v31 (F := Ideal) (ix3 l ⟨j.val % 128 % 64 / 32, h3⟩ ⟨j.val % 128 % 16, h4⟩) :=
    fun h1 h2 h3 h4 => congrArg (val_main_v31 (F := Ideal)) (by
      refine congrArg₂ (ix3 l) (Fin.ext ?_) (Fin.ext ?_)
      · show j.val / 32 % 2 = j.val % 128 % 64 / 32; omega
      · show j.val % 16 = j.val % 128 % 16; omega)
  unfold rot mate cosAt sinAt
  by_cases hj : j.val % 32 < 16
  · rw [dif_pos (show j.val / 16 % 2 < 1 by omega), v71_at, v34_at, v60_at, v60_at, dif_pos hj, if_pos (show j.val % 128 % 32 < 16 by omega), mul_neg, ← sub_eq_add_neg, eA]
    have e0 : (⟨0 + (j.val / 32 * 32 + (0 : Fin 2).val * 16 + j.val % 16), by show 0 + (j.val / 32 * 32 + 0 * 16 + j.val % 16) < 8192; omega⟩ : Fin 8192) = ⟨0 + j.val, by omega⟩ := Fin.ext (by
      show 0 + (j.val / 32 * 32 + 0 * 16 + j.val % 16) = 0 + j.val; omega)
    have e1 : (⟨0 + (j.val / 32 * 32 + (1 : Fin 2).val * 16 + j.val % 16), by show 0 + (j.val / 32 * 32 + 1 * 16 + j.val % 16) < 8192; omega⟩ : Fin 8192) = ⟨0 + (j.val + 16), by omega⟩ := Fin.ext (by
      show 0 + (j.val / 32 * 32 + 1 * 16 + j.val % 16) = 0 + (j.val + 16); omega)
    rw [e0, e1]
  · rw [dif_neg (show ¬ j.val / 16 % 2 < 1 by omega), v78_at, v34_at, v60_at, v60_at, dif_neg hj, if_neg (show ¬ j.val % 128 % 32 < 16 by omega), eA]
    have e0 : (⟨0 + (j.val / 32 * 32 + (0 : Fin 2).val * 16 + j.val % 16), by show 0 + (j.val / 32 * 32 + 0 * 16 + j.val % 16) < 8192; omega⟩ : Fin 8192) = ⟨0 + (j.val - 16), by omega⟩ := Fin.ext (by
      show 0 + (j.val / 32 * 32 + 0 * 16 + j.val % 16) = 0 + (j.val - 16); omega)
    have e1 : (⟨0 + (j.val / 32 * 32 + (1 : Fin 2).val * 16 + j.val % 16), by show 0 + (j.val / 32 * 32 + 1 * 16 + j.val % 16) < 8192; omega⟩ : Fin 8192) = ⟨0 + j.val, by omega⟩ := Fin.ext (by
      show 0 + (j.val / 32 * 32 + 1 * 16 + j.val % 16) = 0 + j.val; omega)
    rw [e0, e1]

/-- The queries before the rotation. -/
theorem v85_at (g : Fin 32) (h : Fin 2) (f : Fin 16) : val_main_v85 (F := Ideal) x0 x1 x2 x3 x4 (ix5 b l g h f)
    = prow x0 x1 x2 x3 x4 b l ⟨2048 + (g.val * 32 + h.val * 16 + f.val), by omega⟩ := by
  rw [← v58_at]
  pointwise [val_main_v85, val_main_v84]

/-- The queries' first half of a rotation. -/
theorem v96_at (g : Fin 32) (f : Fin 16) : val_main_v96 (F := Ideal) x0 x1 x2 x3 x4 (ix4 b l g f)
    = val_main_v85 (F := Ideal) x0 x1 x2 x3 x4 (ix5 b l g 0 f) * Ideal.cos (val_main_v34 (F := Ideal) (ix3 l g f))
      - val_main_v85 (F := Ideal) x0 x1 x2 x3 x4 (ix5 b l g 1 f) * Ideal.sin (val_main_v34 (F := Ideal) (ix3 l g f)) := by
  pointwise [val_main_v96, val_main_v92, val_main_v87, val_main_v86, val_main_v91, val_main_v90, val_main_v35, val_main_v95, val_main_v89, val_main_v88, val_main_v94, val_main_v93, val_main_v36]

/-- The queries' second half of a rotation. -/
theorem v103_at (g : Fin 32) (f : Fin 16) : val_main_v103 (F := Ideal) x0 x1 x2 x3 x4 (ix4 b l g f)
    = val_main_v85 (F := Ideal) x0 x1 x2 x3 x4 (ix5 b l g 1 f) * Ideal.cos (val_main_v34 (F := Ideal) (ix3 l g f))
      + val_main_v85 (F := Ideal) x0 x1 x2 x3 x4 (ix5 b l g 0 f) * Ideal.sin (val_main_v34 (F := Ideal) (ix3 l g f)) := by
  pointwise [val_main_v103, val_main_v99, val_main_v87, val_main_v86, val_main_v98, val_main_v97, val_main_v35, val_main_v102, val_main_v89, val_main_v88, val_main_v101, val_main_v100, val_main_v36]

/-- The queries' two halves side by side. -/
theorem v106_at (g : Fin 32) (h : Fin 2) (f : Fin 16) : val_main_v106 (F := Ideal) x0 x1 x2 x3 x4 (ix5 b l g h f)
    = if _ : h.val < 1 then val_main_v96 (F := Ideal) x0 x1 x2 x3 x4 (ix4 b l g f) else val_main_v103 (F := Ideal) x0 x1 x2 x3 x4 (ix4 b l g f) := by
  pointwise [val_main_v106, val_main_v104, val_main_v105]

/-- The queries' result in groups. -/
theorem v107_groups (j : Fin 1024) : val_main_v107 (F := Ideal) x0 x1 x2 x3 x4 (ix3 b l j)
    = val_main_v106 (F := Ideal) x0 x1 x2 x3 x4 (ix5 b l ⟨j.val / 32, by omega⟩ ⟨j.val / 16 % 2, by omega⟩ ⟨j.val % 16, by omega⟩) := by
  pointwise [val_main_v107]

/-- The queries: the rotated projection. -/
theorem v137_at (j : Fin 1024) : val_main_v137 (F := Ideal) x0 x1 x2 x3 x4 (ix3 b l j)
    = rot (fun j => prow x0 x1 x2 x3 x4 b l ⟨2048 + j.val, by omega⟩) (cosAt l) (sinAt l) j := by
  rw [val_main_v137_apply]
  show val_main_v107 (F := Ideal) x0 x1 x2 x3 x4 (ix3 b l j) = _
  rw [v107_groups, v106_at]
  have eA : ∀ (h1 : j.val / 32 % 2 < 2) (h2 : j.val % 16 < 16) (h3 : j.val % 128 % 64 / 32 < 2) (h4 : j.val % 128 % 16 < 16),
      val_main_v31 (F := Ideal) (ix3 l ⟨j.val / 32 % 2, h1⟩ ⟨j.val % 16, h2⟩) = val_main_v31 (F := Ideal) (ix3 l ⟨j.val % 128 % 64 / 32, h3⟩ ⟨j.val % 128 % 16, h4⟩) :=
    fun h1 h2 h3 h4 => congrArg (val_main_v31 (F := Ideal)) (by
      refine congrArg₂ (ix3 l) (Fin.ext ?_) (Fin.ext ?_)
      · show j.val / 32 % 2 = j.val % 128 % 64 / 32; omega
      · show j.val % 16 = j.val % 128 % 16; omega)
  unfold rot mate cosAt sinAt
  by_cases hj : j.val % 32 < 16
  · rw [dif_pos (show j.val / 16 % 2 < 1 by omega), v96_at, v34_at, v85_at, v85_at, dif_pos hj, if_pos (show j.val % 128 % 32 < 16 by omega), mul_neg, ← sub_eq_add_neg, eA]
    have e0 : (⟨2048 + (j.val / 32 * 32 + (0 : Fin 2).val * 16 + j.val % 16), by show 2048 + (j.val / 32 * 32 + 0 * 16 + j.val % 16) < 8192; omega⟩ : Fin 8192) = ⟨2048 + j.val, by omega⟩ := Fin.ext (by
      show 2048 + (j.val / 32 * 32 + 0 * 16 + j.val % 16) = 2048 + j.val; omega)
    have e1 : (⟨2048 + (j.val / 32 * 32 + (1 : Fin 2).val * 16 + j.val % 16), by show 2048 + (j.val / 32 * 32 + 1 * 16 + j.val % 16) < 8192; omega⟩ : Fin 8192) = ⟨2048 + (j.val + 16), by omega⟩ := Fin.ext (by
      show 2048 + (j.val / 32 * 32 + 1 * 16 + j.val % 16) = 2048 + (j.val + 16); omega)
    rw [e0, e1]
  · rw [dif_neg (show ¬ j.val / 16 % 2 < 1 by omega), v103_at, v34_at, v85_at, v85_at, dif_neg hj, if_neg (show ¬ j.val % 128 % 32 < 16 by omega), eA]
    have e0 : (⟨2048 + (j.val / 32 * 32 + (0 : Fin 2).val * 16 + j.val % 16), by show 2048 + (j.val / 32 * 32 + 0 * 16 + j.val % 16) < 8192; omega⟩ : Fin 8192) = ⟨2048 + (j.val - 16), by omega⟩ := Fin.ext (by
      show 2048 + (j.val / 32 * 32 + 0 * 16 + j.val % 16) = 2048 + (j.val - 16); omega)
    have e1 : (⟨2048 + (j.val / 32 * 32 + (1 : Fin 2).val * 16 + j.val % 16), by show 2048 + (j.val / 32 * 32 + 1 * 16 + j.val % 16) < 8192; omega⟩ : Fin 8192) = ⟨2048 + j.val, by omega⟩ := Fin.ext (by
      show 2048 + (j.val / 32 * 32 + 1 * 16 + j.val % 16) = 2048 + j.val; omega)
    rw [e0, e1]

/-- The values: the projection's columns. -/
theorem v136_at (j : Fin 1024) : val_main_v136 (F := Ideal) x0 x1 x2 x3 x4 (ix3 b l j) = prow x0 x1 x2 x3 x4 b l ⟨1024 + j.val, by omega⟩ := by
  rw [← v58_at]
  pointwise [val_main_v136, val_main_v83]

/-- The gates: the projection's columns. -/
theorem v139_at (j : Fin 2048) : val_main_v139 (F := Ideal) x0 x1 x2 x3 x4 (ix3 b l j) = prow x0 x1 x2 x3 x4 b l ⟨6144 + j.val, by omega⟩ := by
  rw [← v58_at]
  pointwise [val_main_v139, val_main_v134]

/-- A row's projection, zero outside the array: row `r` counts from one before the first. -/
def padrow (r : Nat) (j : Fin 3072) : EReal :=
  if h : 1 ≤ r ∧ r - 1 < 4096 then prow x0 x1 x2 x3 x4 b ⟨r - 1, h.2⟩ ⟨3072 + j.val, by omega⟩ else 0

/-- The columns the taps read. -/
theorem v108_at (j : Fin 3072) : val_main_v108 (F := Ideal) x0 x1 x2 x3 x4 (ix3 b l j) = prow x0 x1 x2 x3 x4 b l ⟨3072 + j.val, by omega⟩ := by
  rw [← v58_at]
  pointwise [val_main_v108]

/-- The padding is zero. -/
theorem pad_zero (i : S_.Idx) : val_main_call0_v0 (F := Ideal) i = (0 : EReal) := by
  rw [val_main_call0_v0_apply, val_main_c_apply]
  show (((0#32 : BitVec 32).toInt : ℝ) : EReal) = 0
  norm_num

/-- The padded projection. -/
theorem v109_at (r : Fin 4098) (j : Fin 3072) : val_main_v109 (F := Ideal) x0 x1 x2 x3 x4 (ix3 b r j) = padrow x0 x1 x2 x3 x4 b r.val j := by
  have h : val_main_v109 (F := Ideal) x0 x1 x2 x3 x4 (ix3 b r j)
      = if h : 1 ≤ r.val ∧ r.val - 1 < 4096 then val_main_v108 (F := Ideal) x0 x1 x2 x3 x4 (ix3 b ⟨r.val - 1, h.2⟩ j) else val_main_call0_v0 (F := Ideal) (Shape.Idx.first h_S_) := by
    pointwise [val_main_v109]
  rw [h]
  unfold padrow
  split
  · exact v108_at x0 x1 x2 x3 x4 b _ j
  · exact pad_zero _

/-- The convolved projection over the padded one. -/
theorem v133_at (j : Fin 3072) : val_main_v133 (F := Ideal) x0 x1 x2 x3 x4 x5 x6 (ix3 b l j)
    = taps (val_main_v109 (F := Ideal) x0 x1 x2 x3 x4 (ix3 b ⟨l.val, by omega⟩ j)) (val_main_v109 (F := Ideal) x0 x1 x2 x3 x4 (ix3 b ⟨1 + l.val, by omega⟩ j))
        (val_main_v109 (F := Ideal) x0 x1 x2 x3 x4 (ix3 b ⟨2 + l.val, by omega⟩ j)) (x5 (ix3 0 0 j)) (x5 (ix3 0 1 j)) (x5 (ix3 0 2 j)) (x6 (ix2 0 j)) := by
  unfold taps
  pointwise [val_main_v133, val_main_v129, val_main_v122, val_main_v115, val_main_v110, val_main_v114, val_main_v113, val_main_v112, val_main_v111, val_main_v121, val_main_v116, val_main_v120, val_main_v119, val_main_v118, val_main_v117, val_main_v128, val_main_v123, val_main_v127, val_main_v126, val_main_v125, val_main_v124, val_main_v132, val_main_v131, val_main_v130]

/-- The convolved projection. -/
theorem v138_at (j : Fin 3072) : val_main_v138 (F := Ideal) x0 x1 x2 x3 x4 x5 x6 (ix3 b l j)
    = taps (padrow x0 x1 x2 x3 x4 b l.val j) (padrow x0 x1 x2 x3 x4 b (1 + l.val) j) (padrow x0 x1 x2 x3 x4 b (2 + l.val) j)
        (x5 (ix3 0 0 j)) (x5 (ix3 0 1 j)) (x5 (ix3 0 2 j)) (x6 (ix2 0 j)) := by
  rw [val_main_v138_apply]
  show val_main_v133 (F := Ideal) x0 x1 x2 x3 x4 x5 x6 (ix3 b l j) = _
  rw [v133_at, v109_at, v109_at, v109_at]

end Cert.Reference2Ideal.Own
-- ==== Proof.InPay.lean ====
module

public import proofs.«01_k».proof.Proof.InRow
public import proofs.«01_k».proof.Proof.Gen.Kernel2Ideal.Skeleton
public import Idealize.ShloMosaic.Lib.Pointwise

@[expose] public section

/-! The projection kernel's arithmetic, read at an index. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic

/-- The block's normalised rows. -/
theorem pay7_at (v0 : Vec Ideal S1x1024 .f32) (v2 v4 : Vec Ideal S1x1x1024 .f32) (v8 : Vec Ideal S1x512x1024 .f32) (r : Fin 512) (d : Fin 1024) :
    k0_pay7 v0 v2 v4 v8 (ix2 r d)
      = normRow (fun d => v8 (ix3 0 r d)) (fun d => v0 (ix2 0 d)) (fun d => v2 (ix3 0 0 d)) (fun d => v4 (ix3 0 0 d)) d := by
  unfold normRow
  pointwise [k0_pay7, k0_pay4, k0_pay5, k0_pay6]

/-- A product of the block's rows with 1024 columns. -/
theorem pay16_at (v68 : FVec Ideal S512x1024 .bf16) (W : Vec Ideal S1024x1024 .bf16) (r : Fin 512) (j : Fin 1024) :
    k0_pay16 v68 W (ix2 r j) = ∑ d : Fin 1024, v68 (ix2 r d) * W (ix2 d j) := by
  pointwise [k0_pay16]

/-- The product with the values' columns. -/
theorem pay28_at (v68 : FVec Ideal S512x1024 .bf16) (W : Vec Ideal S1024x1024 .bf16) (r : Fin 512) (j : Fin 1024) :
    k0_pay28 v68 (k0_pay27 W) (ix3 0 r j) = ∑ d : Fin 1024, v68 (ix2 r d) * W (ix2 d j) := by
  pointwise [k0_pay28, k0_pay27]

/-- The product of the extended block's rows with 1024 columns. -/
theorem pay45_at (v70 : FVec Ideal S528x1024 .bf16) (W : Vec Ideal S1024x1024 .bf16) (r : Fin 528) (j : Fin 1024) :
    k0_pay45 v70 W (ix2 r j) = ∑ d : Fin 1024, v70 (ix2 r d) * W (ix2 d j) := by
  pointwise [k0_pay45]

/-- The three-tap sum. -/
theorem pay46_at (cw : Vec Ideal S3x1024 .f32) (cb : Vec Ideal S1x1024 .f32) (a b c : Vec Ideal S512x1024 .f32) (r : Fin 512) (j : Fin 1024) :
    k0_pay46 cw cb a b c (ix3 0 r j) = taps (a (ix2 r j)) (b (ix2 r j)) (c (ix2 r j)) (cw (ix2 0 j)) (cw (ix2 1 j)) (cw (ix2 2 j)) (cb (ix2 0 j)) := by
  unfold taps
  pointwise [k0_pay46]

/-- Whether a lane is in the first half of its group of 32. -/
theorem first_at : ∀ e : Fin 128, (k0_pay15 (Scalar.select (Scalar.cmpi .eq 32#32 0#32) 1#32 32#32) k0_pay14 : IVec S1x128 1) (ix2 0 e) = if e.val % 32 < 16 then 1#1 else 0#1 := by
  decide +kernel

/-- One head's rotation. -/
theorem pay24_at (cs sn : FVec Ideal S512x128 .f32) (f : IVec S1x128 1) (a : FVec Ideal S512x128 .f32) (r : Fin 512) (e : Fin 128) :
    k0_pay24 cs sn f a (ix3 0 r e) = a (ix2 r e) * cs (ix2 r e)
      + Scalar.select (f (ix2 0 e)) (a (ix2 r ⟨(e.val + 128 - 112) % 128, by omega⟩)) (a (ix2 r ⟨(e.val + 128 - 16) % 128, by omega⟩)) * sn (ix2 r e) := by
  pointwise [k0_pay24]

/-- The lanes in the first half of their group of 32. -/
def firstHalf : IVec S1x128 1 := k0_pay15 (Scalar.select (Scalar.cmpi .eq 32#32 0#32) 1#32 32#32) k0_pay14

/-- One head's rotation is the row's rotation at that head's columns. -/
theorem piece_at (A : FVec Ideal S512x1024 .f32) (cs sn : FVec Ideal S512x128 .f32) (h : Fin 8) (off : Fin 2 → Nat) (ho : off = ![0, 128 * h.val])
    (hs : S512x1024.Slices off S512x128) (r : Fin 512) (e : Fin 128) :
    k0_pay24 cs sn firstHalf (extractStridedSlice S512x128 off A hs) (ix3 0 r e)
      = rot (fun j => A (ix2 r j)) (fun e => cs (ix2 r e)) (fun e => sn (ix2 r e)) ⟨128 * h.val + e.val, by omega⟩ := by
  have hx : ∀ k : Fin 128, extractStridedSlice S512x128 off A hs (ix2 r k) = A (ix2 r ⟨128 * h.val + k.val, by omega⟩) := fun k => by
    subst ho
    unfold extractStridedSlice
    refine congrArg A (funext fun a => Fin.ext ?_)
    match a with
    | ⟨0, _⟩ => show 0 + r.val = r.val; omega
    | ⟨1, _⟩ => rfl
  have hl : (⟨(128 * h.val + e.val) % 128, by omega⟩ : Fin 128) = e := Fin.ext (by show (128 * h.val + e.val) % 128 = e.val; omega)
  rw [pay24_at, hx, hx, hx]
  unfold rot mate
  rw [hl]
  unfold firstHalf
  rw [first_at e]
  by_cases hf : e.val % 32 < 16
  · have hd : (⟨128 * h.val + (e.val + 128 - 112) % 128, by omega⟩ : Fin 1024) = ⟨128 * h.val + e.val + 16, by omega⟩ := Fin.ext (by
      show 128 * h.val + (e.val + 128 - 112) % 128 = 128 * h.val + e.val + 16; omega)
    rw [if_pos hf, dif_pos (show (128 * h.val + e.val) % 32 < 16 by omega)]
    dsimp only
    rw [hd]
    rfl
  · have hd : (⟨128 * h.val + (e.val + 128 - 16) % 128, by omega⟩ : Fin 1024) = ⟨128 * h.val + e.val - 16, by omega⟩ := Fin.ext (by
      show 128 * h.val + (e.val + 128 - 16) % 128 = 128 * h.val + e.val - 16; omega)
    rw [if_neg hf, dif_neg (show ¬ (128 * h.val + e.val) % 32 < 16 by omega)]
    dsimp only
    rw [hd]
    rfl

section Ext
variable (i : BitVec 32) (f : BitVec 1) (g : Vec Ideal S1x1024 .f32) (sh sc : Vec Ideal S1x1x1024 .f32) (m : FVec Ideal S512x1024 .f32) (p n : Vec Ideal S1x8x1024 .f32)

/-- The extended block's first rows: the normalised rows before the block, or zero. -/
theorem ext_prev (r : Fin 8) (d : Fin 1024) :
    k0_pay11 i (k0_pay4 g) (k0_pay5 sh) (k0_pay6 sc) m f (k0_pay8 p) (k0_pay9 p) n (ix2 ⟨r.val, by omega⟩ d)
      = Scalar.select f (normRow (fun d => p (ix3 0 r d)) (fun d => g (ix2 0 d)) (fun d => sh (ix3 0 0 d)) (fun d => sc (ix3 0 0 d)) d) (Ideal.ofBits .f32 0x00000000#32) := by
  unfold normRow
  pointwise [k0_pay11, k0_pay4, k0_pay5, k0_pay6, k0_pay8, k0_pay9]

/-- The extended block's middle rows. -/
theorem ext_mid (r : Fin 512) (d : Fin 1024) :
    k0_pay11 i (k0_pay4 g) (k0_pay5 sh) (k0_pay6 sc) m f (k0_pay8 p) (k0_pay9 p) n (ix2 ⟨8 + r.val, by omega⟩ d) = m (ix2 r d) := by
  pointwise [k0_pay11, k0_pay4, k0_pay5, k0_pay6, k0_pay8, k0_pay9]

/-- The extended block's last rows: the normalised rows after the block, or zero. -/
theorem ext_next (r : Fin 8) (d : Fin 1024) :
    k0_pay11 i (k0_pay4 g) (k0_pay5 sh) (k0_pay6 sc) m f (k0_pay8 p) (k0_pay9 p) n (ix2 ⟨520 + r.val, by omega⟩ d)
      = Scalar.select (Scalar.cmpi .slt i 7#32) (normRow (fun d => n (ix3 0 r d)) (fun d => g (ix2 0 d)) (fun d => sh (ix3 0 0 d)) (fun d => sc (ix3 0 0 d)) d) (Ideal.ofBits .f32 0x00000000#32) := by
  have hr : (⟨520 + r.val - 8 - 512, by omega⟩ : Fin 8) = r := Fin.ext (by show 520 + r.val - 8 - 512 = r.val; omega)
  unfold normRow
  pointwise [k0_pay11, k0_pay4, k0_pay5, k0_pay6, k0_pay8, k0_pay9]
  rw [dif_neg (by omega), dif_neg (by omega)]
  simp only [hr]

end Ext

end Cert.Kernel2Ideal.Own
-- ==== Proof.InHost.lean ====
module

public import proofs.«01_k».proof.Proof.InRef
public import proofs.«01_k».proof.Proof.InPay
public import proofs.«01_k».proof.Proof.Gen.Kernel2Ideal.Value
public import Idealize.ShloMosaic.Lib.StableHlo.ReadAt

@[expose] public section

/-! The arrays the projection kernel is entered with, as terms over the arguments. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic
open Cert.Reference2Ideal.Own (hrow prow cosAt sinAt padrow)
open Cert.Reference2Ideal.Read (val_main_v31)

variable (m : (ℓ : Loc nD τ sig) → Buf (Elt Ideal) ℓ) (c : Dev nD)

/-- The latent array. -/
theorem V_x : V m c main_arg0 = m ((c : Thread nD τ).loc main_arg0) := by
  show StableHlo.after hostOps0 _ (Proc.devRef .tc main_arg0) = _
  after_results

/-- The shift. -/
theorem V_sh : V m c main_arg1 = m ((c : Thread nD τ).loc main_arg1) := by
  show StableHlo.after hostOps0 _ (Proc.devRef .tc main_arg1) = _
  after_results

/-- The scale. -/
theorem V_sc : V m c main_arg2 = m ((c : Thread nD τ).loc main_arg2) := by
  show StableHlo.after hostOps0 _ (Proc.devRef .tc main_arg2) = _
  after_results

/-- The weights. -/
theorem V_w (d : Fin 1024) (j : Fin 8192) : (V m c main_v1 : Vec Ideal S1024x8192 .bf16) (ix2 d j) = (m ((c : Thread nD τ).loc main_arg4) : Vec Ideal S1x1024x8192 .f32) (ix3 0 d j) := by
  unfold V
  after_reads_at

/-- The norm's gain. -/
theorem V_g (d : Fin 1024) : (V m c main_v3 : Vec Ideal S1x1024 .f32) (ix2 0 d) = (m ((c : Thread nD τ).loc main_arg3) : Vec Ideal S1x1024 .f32) (ix2 0 d) := by
  unfold V
  after_reads_at

/-- The taps' weights. -/
theorem V_cw (d : Fin 3) (j : Fin 3072) : (V m c main_v53 : Vec Ideal S3x3072 .f32) (ix2 d j) = (m ((c : Thread nD τ).loc main_arg5) : Vec Ideal S1x3x3072 .f32) (ix3 0 d j) := by
  unfold V
  after_reads_at

/-- The taps' bias. -/
theorem V_cb (j : Fin 3072) : (V m c main_v55 : Vec Ideal S1x3072 .f32) (ix2 0 j) = (m ((c : Thread nD τ).loc main_arg6) : Vec Ideal S1x3072 .f32) (ix2 0 j) := by
  unfold V
  after_reads_at

/-- A table of 64 lanes, from 32 lanes' worth for each axis and half, doubled to 128 lanes. -/
def tab (p q : FVec Ideal S4096x2x16 .f32) : FVec Ideal S4096x128 .f32 :=
  shapeCast S4096x128 (broadcastInDim S1x4096x2x64 ![0, 1, 2, 3] bcast_S1x4096x1x64_S1x4096x2x64_0_1_2_3
    (shapeCast S1x4096x1x64 (shapeCast S4096x64 (concatenate S4096x2x2x16 2
      [⟨S4096x2x1x16, broadcastInDim S4096x2x1x16 ![0, 1, 3] bcast_S4096x2x16_S4096x2x1x16_0_1_3 p⟩,
       ⟨S4096x2x1x16, broadcastInDim S4096x2x1x16 ![0, 1, 3] bcast_S4096x2x16_S4096x2x1x16_0_1_3 q⟩]
      concatenates_S4096x2x1x16_S4096x2x1x16_S4096x2x2x16_d2) shapeCasts_S4096x2x2x16_S4096x64) shapeCasts_S4096x64_S1x4096x1x64)) shapeCasts_S1x4096x2x64_S4096x128

/-- A table's entry. -/
theorem tab_at (p q : FVec Ideal S4096x2x16 .f32) (l : Fin 4096) (e : Fin 128) : tab p q (ix2 l e)
    = if e.val % 32 < 16 then p (ix3 l ⟨e.val % 64 / 32, by omega⟩ ⟨e.val % 16, by omega⟩) else q (ix3 l ⟨e.val % 64 / 32, by omega⟩ ⟨e.val % 16, by omega⟩) := by
  have h : tab p q (ix2 l e) = if _ : e.val % 64 / 16 % 2 < 1 then p (ix3 l ⟨e.val % 64 / 32, by omega⟩ ⟨e.val % 64 % 16, by omega⟩)
      else q (ix3 l ⟨e.val % 64 / 32, by omega⟩ ⟨e.val % 64 % 16, by omega⟩) := by
    pointwise [tab]
  have he : (⟨e.val % 64 % 16, by omega⟩ : Fin 16) = ⟨e.val % 16, by omega⟩ := Fin.ext (by show e.val % 64 % 16 = e.val % 16; omega)
  rw [h]
  by_cases hc : e.val % 32 < 16
  · rw [if_pos hc, dif_pos (by omega)]
    exact congrArg (fun z : Fin 16 => p (ix3 l ⟨e.val % 64 / 32, by omega⟩ z)) he
  · rw [if_neg hc, dif_neg (by omega)]
    exact congrArg (fun z : Fin 16 => q (ix3 l ⟨e.val % 64 / 32, by omega⟩ z)) he

/-- The cosines' table. -/
theorem V_cos : V m c main_v49 = tab (Host.cos (val_main_v31 (F := Ideal))) (Host.cos (val_main_v31 (F := Ideal))) := by
  show StableHlo.after hostOps0 _ (Proc.devRef .tc main_v49) = _
  after_results
  rfl

/-- The signed sines' table. -/
theorem V_sin : V m c main_v52 = tab (Host.negf (Host.sin (val_main_v31 (F := Ideal)))) (Host.sin (val_main_v31 (F := Ideal))) := by
  show StableHlo.after hostOps0 _ (Proc.devRef .tc main_v52) = _
  after_results
  rfl

/-- The cosines' table at an index. -/
theorem cos_tab (l : Fin 4096) (e : Fin 128) : tab (Host.cos (val_main_v31 (F := Ideal))) (Host.cos (val_main_v31 (F := Ideal))) (ix2 l e) = cosAt l e := by
  rw [tab_at, ite_self]
  rfl

/-- The signed sines' table at an index. -/
theorem sin_tab (l : Fin 4096) (e : Fin 128) : tab (Host.negf (Host.sin (val_main_v31 (F := Ideal)))) (Host.sin (val_main_v31 (F := Ideal))) (ix2 l e) = sinAt l e := by
  rw [tab_at]
  rfl

end Cert.Kernel2Ideal.Own
-- ==== Proof.InBlocks.lean ====
module

public import proofs.«01_k».proof.Proof.InRef
public import proofs.«01_k».proof.Proof.InPay
public import proofs.«01_k».proof.Proof.Gen.Kernel2Ideal.Value
public import proofs.«01_k».proof.Proof.InHost

@[expose] public section

/-! The blocks the projection kernel works on at a grid point, as entries of the arguments: point `t` has batch `t / 8` and the rows from `512 (t % 8)` on. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic
open Cert.Reference2Ideal.Own (hrow prow cosAt sinAt padrow)
open Cert.Reference2Ideal.Read (val_main_v31)

variable (m : (ℓ : Loc nD τ sig) → Buf (Elt Ideal) ℓ) (c : Dev nD)

/-- There are 64 grid points. -/
theorem points (t : Fin cfg0.N) : t.val < 64 := by
  have h : cfg0.N = 64 := N_0
  have := t.isLt
  omega

/-- A grid point's batch. -/
def batch (t : Fin cfg0.N) : Fin 8 := ⟨t.val / 8, by have := points t; omega⟩
/-- A row of a grid point's block, as a row of the array. -/
def row (t : Fin cfg0.N) (r : Fin 512) : Fin 4096 := ⟨t.val % 8 * 512 + r.val, by omega⟩

/-- A grid point's second coordinate. -/
theorem coord : ∀ t : Fin cfg0.N, (grid0.coords t 1).val = t.val % 8 :=
  (by decide +kernel : ∀ t : Fin grid0.N, (grid0.coords t 1).val = t.val % 8)
/-- The block index of the rows at a grid point. -/
theorem index_x : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
/-- The block index of the rows before at a grid point. -/
theorem index_prev : ∀ t : Fin cfg0.N, win0_1.index t 0 = t.val / 8 ∧ win0_1.index t 1 = 64 * (t.val % 8) - 1 ∧ win0_1.index t 2 = 0 :=
  (by decide +kernel : ∀ t : Fin grid0.N, win0_1.index t 0 = t.val / 8 ∧ win0_1.index t 1 = 64 * (t.val % 8) - 1 ∧ win0_1.index t 2 = 0)
/-- The block index of the rows after at a grid point. -/
theorem index_next : ∀ t : Fin cfg0.N, win0_2.index t 0 = t.val / 8 ∧ win0_2.index t 1 = min (64 * (t.val % 8 + 1)) 511 ∧ win0_2.index t 2 = 0 :=
  (by decide +kernel : ∀ t : Fin grid0.N, win0_2.index t 0 = t.val / 8 ∧ win0_2.index t 1 = min (64 * (t.val % 8 + 1)) 511 ∧ win0_2.index t 2 = 0)
/-- The block index of the shift at a grid point. -/
theorem index_sh : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
/-- The block index of the scale at a grid point. -/
theorem index_sc : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)
/-- The block index of the gain at a grid point. -/
theorem index_g : ∀ t : Fin cfg0.N, win0_5.index t 0 = 0 ∧ win0_5.index t 1 = 0 :=
  (by decide +kernel : ∀ t : Fin grid0.N, win0_5.index t 0 = 0 ∧ win0_5.index t 1 = 0)
/-- The block index of the weights at a grid point. -/
theorem index_w : ∀ t : Fin cfg0.N, win0_6.index t 0 = 0 ∧ win0_6.index t 1 = 0 :=
  (by decide +kernel : ∀ t : Fin grid0.N, win0_6.index t 0 = 0 ∧ win0_6.index t 1 = 0)
/-- The block index of the cosines at a grid point. -/
theorem index_cos : ∀ t : Fin cfg0.N, win0_7.index t 0 = t.val % 8 ∧ win0_7.index t 1 = 0 :=
  (by decide +kernel : ∀ t : Fin grid0.N, win0_7.index t 0 = t.val % 8 ∧ win0_7.index t 1 = 0)
/-- The block index of the sines at a grid point. -/
theorem index_sin : ∀ t : Fin cfg0.N, win0_8.index t 0 = t.val % 8 ∧ win0_8.index t 1 = 0 :=
  (by decide +kernel : ∀ t : Fin grid0.N, win0_8.index t 0 = t.val % 8 ∧ win0_8.index t 1 = 0)
/-- The block index of the taps' weights at a grid point. -/
theorem index_cw : ∀ t : Fin cfg0.N, win0_9.index t 0 = 0 ∧ win0_9.index t 1 = 0 :=
  (by decide +kernel : ∀ t : Fin grid0.N, win0_9.index t 0 = 0 ∧ win0_9.index t 1 = 0)
/-- The block index of the taps' bias at a grid point. -/
theorem index_cb : ∀ t : Fin cfg0.N, win0_10.index t 0 = 0 ∧ win0_10.index t 1 = 0 :=
  (by decide +kernel : ∀ t : Fin grid0.N, win0_10.index t 0 = 0 ∧ win0_10.index t 1 = 0)

/-- The rows of a grid point. -/
theorem x_at (t : Fin cfg0.N) (r : Fin 512) (d : Fin 1024) : (iblk m c 0 t : Vec Ideal S1x512x1024 .f32) (ix3 0 r d)
    = (m ((c : Thread nD τ).loc main_arg0) : Vec Ideal S8x4096x1024 .f32) (ix3 (batch t) (row t r) d) := by
  obtain ⟨i0, i1, i2⟩ := index_x t
  unfold iblk
  rw [View.read_apply]
  show V m c main_arg0 _ = _
  rw [V_x]
  refine congrArg _ (funext fun a => Fin.ext ?_)
  match a with
  | ⟨0, _⟩ => show win0_0.index t 0 * 1 + 1 * 0 = t.val / 8; rw [i0]; omega
  | ⟨1, _⟩ => show win0_0.index t 1 * 512 + 1 * r.val = t.val % 8 * 512 + r.val; rw [i1]; omega
  | ⟨2, _⟩ => show win0_0.index t 2 * 1024 + 1 * d.val = d.val; rw [i2]; omega

/-- The rows before of a grid point. -/
theorem prev_at (t : Fin cfg0.N) (r : Fin 8) (d : Fin 1024) (hr : 0 < t.val % 8) : (iblk m c 1 t : Vec Ideal S1x8x1024 .f32) (ix3 0 r d)
    = (m ((c : Thread nD τ).loc main_arg0) : Vec Ideal S8x4096x1024 .f32) (ix3 (batch t) ⟨t.val % 8 * 512 + r.val - 8, by omega⟩ d) := by
  obtain ⟨i0, i1, i2⟩ := index_prev t
  unfold iblk
  rw [View.read_apply]
  show V m c main_arg0 _ = _
  rw [V_x]
  refine congrArg _ (funext fun a => Fin.ext ?_)
  match a with
  | ⟨0, _⟩ => show win0_1.index t 0 * 1 + 1 * 0 = t.val / 8; rw [i0]; omega
  | ⟨1, _⟩ => show win0_1.index t 1 * 8 + 1 * r.val = t.val % 8 * 512 + r.val - 8; rw [i1]; omega
  | ⟨2, _⟩ => show win0_1.index t 2 * 1024 + 1 * d.val = d.val; rw [i2]; omega

/-- The rows after of a grid point. -/
theorem next_at (t : Fin cfg0.N) (r : Fin 8) (d : Fin 1024) (hr : t.val % 8 < 7) : (iblk m c 2 t : Vec Ideal S1x8x1024 .f32) (ix3 0 r d)
    = (m ((c : Thread nD τ).loc main_arg0) : Vec Ideal S8x4096x1024 .f32) (ix3 (batch t) ⟨(t.val % 8 + 1) * 512 + r.val, by omega⟩ d) := by
  obtain ⟨i0, i1, i2⟩ := index_next t
  unfold iblk
  rw [View.read_apply]
  show V m c main_arg0 _ = _
  rw [V_x]
  refine congrArg _ (funext fun a => Fin.ext ?_)
  match a with
  | ⟨0, _⟩ => show win0_2.index t 0 * 1 + 1 * 0 = t.val / 8; rw [i0]; omega
  | ⟨1, _⟩ => show win0_2.index t 1 * 8 + 1 * r.val = (t.val % 8 + 1) * 512 + r.val; rw [i1]; omega
  | ⟨2, _⟩ => show win0_2.index t 2 * 1024 + 1 * d.val = d.val; rw [i2]; omega

/-- The shift of a grid point. -/
theorem sh_at (t : Fin cfg0.N) (r : Fin 1) (d : Fin 1024) : (iblk m c 3 t : Vec Ideal S1x1x1024 .f32) (ix3 0 r d)
    = (m ((c : Thread nD τ).loc main_arg1) : Vec Ideal S8x1x1024 .f32) (ix3 (batch t) 0 d) := by
  obtain ⟨i0, i1, i2⟩ := index_sh t
  unfold iblk
  rw [View.read_apply]
  show V m c main_arg1 _ = _
  rw [V_sh]
  refine congrArg _ (funext fun a => Fin.ext ?_)
  match a with
  | ⟨0, _⟩ => show win0_3.index t 0 * 1 + 1 * 0 = t.val / 8; rw [i0]; omega
  | ⟨1, _⟩ => show win0_3.index t 1 * 1 + 1 * r.val = 0; rw [i1]; omega
  | ⟨2, _⟩ => show win0_3.index t 2 * 1024 + 1 * d.val = d.val; rw [i2]; omega

/-- The scale of a grid point. -/
theorem sc_at (t : Fin cfg0.N) (r : Fin 1) (d : Fin 1024) : (iblk m c 4 t : Vec Ideal S1x1x1024 .f32) (ix3 0 r d)
    = (m ((c : Thread nD τ).loc main_arg2) : Vec Ideal S8x1x1024 .f32) (ix3 (batch t) 0 d) := by
  obtain ⟨i0, i1, i2⟩ := index_sc t
  unfold iblk
  rw [View.read_apply]
  show V m c main_arg2 _ = _
  rw [V_sc]
  refine congrArg _ (funext fun a => Fin.ext ?_)
  match a with
  | ⟨0, _⟩ => show win0_4.index t 0 * 1 + 1 * 0 = t.val / 8; rw [i0]; omega
  | ⟨1, _⟩ => show win0_4.index t 1 * 1 + 1 * r.val = 0; rw [i1]; omega
  | ⟨2, _⟩ => show win0_4.index t 2 * 1024 + 1 * d.val = d.val; rw [i2]; omega

/-- The weights of a grid point. -/
theorem w_at (t : Fin cfg0.N) (r : Fin 1024) (d : Fin 8192) : (iblk m c 6 t : Vec Ideal S1024x8192 .bf16) (ix2 r d)
    = (m ((c : Thread nD τ).loc main_arg4) : Vec Ideal S1x1024x8192 .f32) (ix3 0 r d) := by
  obtain ⟨i0, i1⟩ := index_w t
  rw [← V_w m c r d]
  unfold iblk
  rw [View.read_apply]
  show V m c main_v1 _ = V m c main_v1 _
  refine congrArg _ (funext fun a => Fin.ext ?_)
  match a with
  | ⟨0, _⟩ => show win0_6.index t 0 * 1024 + 1 * r.val = r.val; rw [i0]; omega
  | ⟨1, _⟩ => show win0_6.index t 1 * 8192 + 1 * d.val = d.val; rw [i1]; omega

/-- The cosines of a grid point. -/
theorem cos_at (t : Fin cfg0.N) (r : Fin 512) (d : Fin 128) : (iblk m c 7 t : Vec Ideal S512x128 .f32) (ix2 r d)
    = cosAt (row t r) d := by
  obtain ⟨i0, i1⟩ := index_cos t
  rw [← cos_tab, ← V_cos m c]
  unfold iblk
  rw [View.read_apply]
  show V m c main_v49 _ = V m c main_v49 _
  refine congrArg _ (funext fun a => Fin.ext ?_)
  match a with
  | ⟨0, _⟩ => show win0_7.index t 0 * 512 + 1 * r.val = t.val % 8 * 512 + r.val; rw [i0]; omega
  | ⟨1, _⟩ => show win0_7.index t 1 * 128 + 1 * d.val = d.val; rw [i1]; omega

/-- The signed sines of a grid point. -/
theorem sin_at (t : Fin cfg0.N) (r : Fin 512) (d : Fin 128) : (iblk m c 8 t : Vec Ideal S512x128 .f32) (ix2 r d)
    = sinAt (row t r) d := by
  obtain ⟨i0, i1⟩ := index_sin t
  rw [← sin_tab, ← V_sin m c]
  unfold iblk
  rw [View.read_apply]
  show V m c main_v52 _ = V m c main_v52 _
  refine congrArg _ (funext fun a => Fin.ext ?_)
  match a with
  | ⟨0, _⟩ => show win0_8.index t 0 * 512 + 1 * r.val = t.val % 8 * 512 + r.val; rw [i0]; omega
  | ⟨1, _⟩ => show win0_8.index t 1 * 128 + 1 * d.val = d.val; rw [i1]; omega

/-- The taps' weights of a grid point. -/
theorem cw_at (t : Fin cfg0.N) (r : Fin 3) (d : Fin 3072) : (iblk m c 9 t : Vec Ideal S3x3072 .f32) (ix2 r d)
    = (m ((c : Thread nD τ).loc main_arg5) : Vec Ideal S1x3x3072 .f32) (ix3 0 r d) := by
  obtain ⟨i0, i1⟩ := index_cw t
  rw [← V_cw m c r d]
  unfold iblk
  rw [View.read_apply]
  show V m c main_v53 _ = V m c main_v53 _
  refine congrArg _ (funext fun a => Fin.ext ?_)
  match a with
  | ⟨0, _⟩ => show win0_9.index t 0 * 3 + 1 * r.val = r.val; rw [i0]; omega
  | ⟨1, _⟩ => show win0_9.index t 1 * 3072 + 1 * d.val = d.val; rw [i1]; omega

/-- The gain of a grid point. -/
theorem g_at (t : Fin cfg0.N) (d : Fin 1024) : (iblk m c 5 t : Vec Ideal S1x1024 .f32) (ix2 0 d)
    = (m ((c : Thread nD τ).loc main_arg3) : Vec Ideal S1x1024 .f32) (ix2 0 d) := by
  obtain ⟨i0, i1⟩ := index_g t
  rw [← V_g m c d]
  unfold iblk
  rw [View.read_apply]
  show V m c main_v3 _ = V m c main_v3 _
  refine congrArg _ (funext fun a => Fin.ext ?_)
  match a with
  | ⟨0, _⟩ => show win0_5.index t 0 * 1 + 1 * 0 = 0; rw [i0]
  | ⟨1, _⟩ => show win0_5.index t 1 * 1024 + 1 * d.val = d.val; rw [i1]; omega

/-- The taps' bias of a grid point. -/
theorem cb_at (t : Fin cfg0.N) (d : Fin 3072) : (iblk m c 10 t : Vec Ideal S1x3072 .f32) (ix2 0 d)
    = (m ((c : Thread nD τ).loc main_arg6) : Vec Ideal S1x3072 .f32) (ix2 0 d) := by
  obtain ⟨i0, i1⟩ := index_cb t
  rw [← V_cb m c d]
  unfold iblk
  rw [View.read_apply]
  show V m c main_v55 _ = V m c main_v55 _
  refine congrArg _ (funext fun a => Fin.ext ?_)
  match a with
  | ⟨0, _⟩ => show win0_10.index t 0 * 1 + 1 * 0 = 0; rw [i0]
  | ⟨1, _⟩ => show win0_10.index t 1 * 3072 + 1 * d.val = d.val; rw [i1]; omega

end Cert.Kernel2Ideal.Own
-- ==== Proof.InOut.lean ====
module

public import proofs.«01_k».proof.Proof.InPay
public import proofs.«01_k».proof.Proof.Gen.Kernel2Ideal.Frame
public import Idealize.ShloMosaic.Lib.Pipeline.ReadBack

@[expose] public section

/-! The blocks the projection's body leaves in its five output buffers, at an index, from the blocks it read. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic

/-- Zero offsets on two axes. -/
theorem hz2 : (![0, 0] : Fin 2 → Nat) = fun _ => 0 := funext fun a => by fin_cases a <;> rfl
/-- Zero offsets on three axes. -/
theorem hz3 : (![0, 0, 0] : Fin 3 → Nat) = fun _ => 0 := funext fun a => by fin_cases a <;> rfl

/-- The columns of the weights from column `c0` on. -/
theorem ld_cols (W : Vec Ideal S1024x8192 .bf16) (c0 : Nat) (hc : c0 + 1024 ≤ 8192) (off : Fin 2 → Nat) (ho : off = ![0, c0])
    (inb : ∀ a, off a + S1024x1024.size a ≤ S1024x8192.size a) (d j : Fin 1024) :
    View.ld W (Rect.unit (s := S1024x8192) off S1024x1024.size inb) (ix2 d j) = W (ix2 d ⟨c0 + j.val, by omega⟩) := by
  subst ho
  refine congrArg W (funext fun a => Fin.ext ?_)
  match a with
  | ⟨0, _⟩ => show 0 + 1 * d.val = d.val; omega
  | ⟨1, _⟩ => show c0 + 1 * j.val = c0 + j.val; omega

/-- A row times the weights' column `c`. -/
def colsAt (h : Fin 1024 → EReal) (W : Vec Ideal S1024x8192 .bf16) (c : Fin 8192) : EReal :=
  proj h (fun d j => W (ix2 d j)) c

/-- The rotated projection at an index of the block. -/
def rotG (v : FVec Ideal S512x1024 .bf16) (W : Vec Ideal S1024x8192 .bf16) (cs sn : FVec Ideal S512x128 .f32) (c0 : Nat) (hc : c0 + 1024 ≤ 8192) (y : S1x512x1024.Idx) : EReal :=
  rot (fun j => colsAt (fun d => v (ix2 (y 1) d)) W ⟨c0 + j.val, by omega⟩) (fun e => cs (ix2 (y 1) e)) (fun e => sn (ix2 (y 1) e)) (y 2)

/-- One head's store is a piece of the rotated projection. -/
theorem piece_G (v : FVec Ideal S512x1024 .bf16) (W : Vec Ideal S1024x8192 .bf16) (cs sn : FVec Ideal S512x128 .f32) (c0 : Nat) (hc : c0 + 1024 ≤ 8192)
    (offW : Fin 2 → Nat) (hoW : offW = ![0, c0]) (inbW : ∀ a, offW a + S1024x1024.size a ≤ S1024x8192.size a)
    (h : Fin 8) (off2 : Fin 2 → Nat) (ho2 : off2 = ![0, 128 * h.val]) (hs : S512x1024.Slices off2 S512x128)
    (off3 : Fin 3 → Nat) (ho3 : off3 = ![0, 0, 128 * h.val]) (inb : ∀ a, off3 a + S1x512x128.size a ≤ S1x512x1024.size a) (x : S1x512x128.Idx) :
    k0_pay24 cs sn firstHalf (extractStridedSlice S512x128 off2 (k0_pay16 v (View.ld W (Rect.unit (s := S1024x8192) offW S1024x1024.size inbW))) hs) x
      = rotG v W cs sn c0 hc ((Rect.unit (s := S1x512x1024) off3 S1x512x128.size inb).emb x) := by
  obtain ⟨r, e, rfl⟩ : ∃ (r : Fin 512) (e : Fin 128), x = ix3 (0 : Fin 1) r e := ⟨x 1, x 2, funext fun a => by
    match a with
    | ⟨0, _⟩ => exact Subsingleton.elim (α := Fin 1) _ _
    | ⟨1, _⟩ => rfl
    | ⟨2, _⟩ => rfl⟩
  have he : (Rect.unit (s := S1x512x1024) off3 S1x512x128.size inb).emb (ix3 (0 : Fin 1) r e) = ix3 (0 : Fin 1) r (⟨128 * h.val + e.val, by omega⟩ : Fin 1024) := by
    subst ho3
    refine funext fun a => Fin.ext ?_
    match a with
    | ⟨0, _⟩ => rfl
    | ⟨1, _⟩ => show 0 + 1 * r.val = r.val; omega
    | ⟨2, _⟩ => show 128 * h.val + 1 * e.val = 128 * h.val + e.val; omega
  rw [he, piece_at _ cs sn h off2 ho2 hs r e]
  refine congrArg (fun f => rot f _ _ _) (funext fun j => ?_)
  rw [pay16_at]
  exact Finset.sum_congr rfl fun d _ => congrArg (v (ix2 r d) * ·) (ld_cols W c0 hc offW hoW inbW d j)

/-- The queries' head 0, as the rotation of that head. -/
theorem q_head0 (v : FVec Ideal S512x1024 .bf16) (W : Vec Ideal S1024x1024 .bf16) (cs sn : FVec Ideal S512x128 .f32) :
    k0_pay30 v cs sn firstHalf W = k0_pay24 cs sn firstHalf (extractStridedSlice S512x128 ![0, 0] (k0_pay16 v W) slices_S512x1024_o0_0_S512x128) := rfl
/-- The queries' head 1, as the rotation of that head. -/
theorem q_head1 (v : FVec Ideal S512x1024 .bf16) (W : Vec Ideal S1024x1024 .bf16) (cs sn : FVec Ideal S512x128 .f32) :
    k0_pay31 v cs sn firstHalf W = k0_pay24 cs sn firstHalf (extractStridedSlice S512x128 ![0, 128] (k0_pay16 v W) slices_S512x1024_o0_128_S512x128) := rfl
/-- The queries' head 2, as the rotation of that head. -/
theorem q_head2 (v : FVec Ideal S512x1024 .bf16) (W : Vec Ideal S1024x1024 .bf16) (cs sn : FVec Ideal S512x128 .f32) :
    k0_pay36 cs sn (k0_pay32 v W) (k0_pay33 v W) (k0_pay34 v W) (k0_pay35 firstHalf) = k0_pay24 cs sn firstHalf (extractStridedSlice S512x128 ![0, 256] (k0_pay16 v W) slices_S512x1024_o0_256_S512x128) := rfl
/-- The queries' head 3, as the rotation of that head. -/
theorem q_head3 (v : FVec Ideal S512x1024 .bf16) (W : Vec Ideal S1024x1024 .bf16) (cs sn : FVec Ideal S512x128 .f32) :
    k0_pay37 cs sn firstHalf (k0_pay29 v W) = k0_pay24 cs sn firstHalf (extractStridedSlice S512x128 ![0, 384] (k0_pay16 v W) slices_S512x1024_o0_384_S512x128) := rfl
/-- The queries' head 4, as the rotation of that head. -/
theorem q_head4 (v : FVec Ideal S512x1024 .bf16) (W : Vec Ideal S1024x1024 .bf16) (cs sn : FVec Ideal S512x128 .f32) :
    k0_pay38 cs sn firstHalf (k0_pay29 v W) = k0_pay24 cs sn firstHalf (extractStridedSlice S512x128 ![0, 512] (k0_pay16 v W) slices_S512x1024_o0_512_S512x128) := rfl
/-- The queries' head 5, as the rotation of that head. -/
theorem q_head5 (v : FVec Ideal S512x1024 .bf16) (W : Vec Ideal S1024x1024 .bf16) (cs sn : FVec Ideal S512x128 .f32) :
    k0_pay42 sn (k0_pay40 firstHalf (k0_pay29 v W)) (k0_pay41 cs (k0_pay29 v W)) = k0_pay24 cs sn firstHalf (extractStridedSlice S512x128 ![0, 640] (k0_pay16 v W) slices_S512x1024_o0_640_S512x128) := rfl
/-- The queries' head 6, as the rotation of that head. -/
theorem q_head6 (v : FVec Ideal S512x1024 .bf16) (W : Vec Ideal S1024x1024 .bf16) (cs sn : FVec Ideal S512x128 .f32) :
    k0_pay43 cs sn firstHalf (k0_pay29 v W) = k0_pay24 cs sn firstHalf (extractStridedSlice S512x128 ![0, 768] (k0_pay16 v W) slices_S512x1024_o0_768_S512x128) := rfl
/-- The queries' head 7, as the rotation of that head. -/
theorem q_head7 (v : FVec Ideal S512x1024 .bf16) (W : Vec Ideal S1024x1024 .bf16) (cs sn : FVec Ideal S512x128 .f32) :
    k0_pay44 cs sn firstHalf (k0_pay29 v W) = k0_pay24 cs sn firstHalf (extractStridedSlice S512x128 ![0, 896] (k0_pay16 v W) slices_S512x1024_o0_896_S512x128) := rfl

/-- The block's rows, normalised. -/
def rowsOf (x0 : Vec Ideal S1x512x1024 .f32) (x3 x4 : Vec Ideal S1x1x1024 .f32) (x5 : Vec Ideal S1x1024 .f32) : FVec Ideal S512x1024 .bf16 :=
  k0_pay10 (k0_pay7 x5 x3 x4 x0)

/-- The block's rows with eight rows before and eight after, normalised. -/
def extOf (i : Fin 8) (x0 : Vec Ideal S1x512x1024 .f32) (x1 x2 : Vec Ideal S1x8x1024 .f32) (x3 x4 : Vec Ideal S1x1x1024 .f32) (x5 : Vec Ideal S1x1024 .f32) : FVec Ideal S528x1024 .bf16 :=
  k0_pay11 (BitVec.ofNat 32 i.val) (k0_pay4 x5) (k0_pay5 x3) (k0_pay6 x4) (k0_pay7 x5 x3 x4 x0) (Scalar.cmpi .sgt (BitVec.ofNat 32 i.val) 0#32) (k0_pay8 x1) (k0_pay9 x1) x2

/-- The three-tap sum of the extended rows' projections at an index of the block. -/
def tapG (v : FVec Ideal S528x1024 .bf16) (W : Vec Ideal S1024x8192 .bf16) (cw : Vec Ideal S3x3072 .f32) (cb : Vec Ideal S1x3072 .f32) (y : S1x512x3072.Idx) : EReal :=
  let r : Fin 512 := y 1
  let j : Fin 3072 := y 2
  taps (colsAt (fun d => v (ix2 ⟨7 + r.val, by omega⟩ d)) W ⟨3072 + j.val, by omega⟩) (colsAt (fun d => v (ix2 ⟨8 + r.val, by omega⟩ d)) W ⟨3072 + j.val, by omega⟩)
    (colsAt (fun d => v (ix2 ⟨9 + r.val, by omega⟩ d)) W ⟨3072 + j.val, by omega⟩) (cw (ix2 0 j)) (cw (ix2 1 j)) (cw (ix2 2 j)) (cb (ix2 0 j))

/-- A block of 512 rows of the products, from row `o`. -/
theorem ld_rows (Z : Vec Ideal S528x1024 .f32) (o : Nat) (ho' : o + 512 ≤ 528) (off : Fin 2 → Nat) (ho : off = ![o, 0])
    (inb : ∀ a, off a + S512x1024.size a ≤ S528x1024.size a) (r : Fin 512) (j : Fin 1024) :
    View.ld Z (Rect.unit (s := S528x1024) off S512x1024.size inb) (ix2 r j) = Z (ix2 ⟨o + r.val, by omega⟩ j) := by
  subst ho
  refine congrArg Z (funext fun a => Fin.ext ?_)
  match a with
  | ⟨0, _⟩ => show o + 1 * r.val = o + r.val; omega
  | ⟨1, _⟩ => show 0 + 1 * j.val = j.val; omega

/-- The taps' weights from column `c` on. -/
theorem ld_cw (Z : Vec Ideal S3x3072 .f32) (c : Nat) (hc : c + 1024 ≤ 3072) (off : Fin 2 → Nat) (ho : off = ![0, c])
    (inb : ∀ a, off a + S3x1024.size a ≤ S3x3072.size a) (r : Fin 3) (j : Fin 1024) :
    View.ld Z (Rect.unit (s := S3x3072) off S3x1024.size inb) (ix2 r j) = Z (ix2 r ⟨c + j.val, by omega⟩) := by
  subst ho
  refine congrArg Z (funext fun a => Fin.ext ?_)
  match a with
  | ⟨0, _⟩ => show 0 + 1 * r.val = r.val; omega
  | ⟨1, _⟩ => show c + 1 * j.val = c + j.val; omega

/-- The bias from column `c` on. -/
theorem ld_cb (Z : Vec Ideal S1x3072 .f32) (c : Nat) (hc : c + 1024 ≤ 3072) (off : Fin 2 → Nat) (ho : off = ![0, c])
    (inb : ∀ a, off a + S1x1024.size a ≤ S1x3072.size a) (j : Fin 1024) :
    View.ld Z (Rect.unit (s := S1x3072) off S1x1024.size inb) (ix2 0 j) = Z (ix2 0 ⟨c + j.val, by omega⟩) := by
  subst ho
  refine congrArg Z (funext fun a => Fin.ext ?_)
  match a with
  | ⟨0, _⟩ => rfl
  | ⟨1, _⟩ => show c + 1 * j.val = c + j.val; omega

/-- The values at an index of the block. -/
def valG (v : FVec Ideal S512x1024 .bf16) (W : Vec Ideal S1024x8192 .bf16) (y : S1x512x1024.Idx) : EReal :=
  let r : Fin 512 := y 1
  let j : Fin 1024 := y 2
  colsAt (fun d => v (ix2 r d)) W ⟨1024 + j.val, by omega⟩

/-- A store of 1024 columns is a piece of it. -/
theorem piece_V (v : FVec Ideal S512x1024 .bf16) (W : Vec Ideal S1024x8192 .bf16) (c : Nat) (hc : c + 1024 ≤ 1024)
    (offW : Fin 2 → Nat) (hoW : offW = ![0, 1024 + c]) (inbW : ∀ a, offW a + S1024x1024.size a ≤ S1024x8192.size a)
    (off3 : Fin 3 → Nat) (ho3 : off3 = ![0, 0, c]) (inb : ∀ a, off3 a + S1x512x1024.size a ≤ S1x512x1024.size a) (x : S1x512x1024.Idx) :
    k0_pay28 v (k0_pay27 (View.ld W (Rect.unit (s := S1024x8192) offW S1024x1024.size inbW))) x
      = valG v W ((Rect.unit (s := S1x512x1024) off3 S1x512x1024.size inb).emb x) := by
  obtain ⟨r, e, rfl⟩ : ∃ (r : Fin 512) (e : Fin 1024), x = ix3 (0 : Fin 1) r e := ⟨x 1, x 2, funext fun a => by
    match a with
    | ⟨0, _⟩ => exact Subsingleton.elim (α := Fin 1) _ _
    | ⟨1, _⟩ => rfl
    | ⟨2, _⟩ => rfl⟩
  have he : (Rect.unit (s := S1x512x1024) off3 S1x512x1024.size inb).emb (ix3 (0 : Fin 1) r e) = ix3 (0 : Fin 1) r (⟨c + e.val, by omega⟩ : Fin 1024) := by
    subst ho3
    refine funext fun a => Fin.ext ?_
    match a with
    | ⟨0, _⟩ => rfl
    | ⟨1, _⟩ => show 0 + 1 * r.val = r.val; omega
    | ⟨2, _⟩ => show c + 1 * e.val = c + e.val; omega
  rw [he, pay28_at]
  show _ = ∑ d : Fin 1024, v (ix2 r d) * W (ix2 d ⟨1024 + (c + e.val), by omega⟩)
  refine Finset.sum_congr rfl fun d _ => ?_
  rw [ld_cols W (1024 + c) (by omega) offW hoW inbW d e]
  refine congrArg (fun k => v (ix2 r d) * W (ix2 d k)) (Fin.ext ?_)
  show 1024 + c + e.val = 1024 + (c + e.val)
  omega

/-- The gates at an index of the block. -/
def gateG (v : FVec Ideal S512x1024 .bf16) (W : Vec Ideal S1024x8192 .bf16) (y : S1x512x2048.Idx) : EReal :=
  let r : Fin 512 := y 1
  let j : Fin 2048 := y 2
  colsAt (fun d => v (ix2 r d)) W ⟨6144 + j.val, by omega⟩

/-- A store of 1024 columns is a piece of it. -/
theorem piece_S (v : FVec Ideal S512x1024 .bf16) (W : Vec Ideal S1024x8192 .bf16) (c : Nat) (hc : c + 1024 ≤ 2048)
    (offW : Fin 2 → Nat) (hoW : offW = ![0, 6144 + c]) (inbW : ∀ a, offW a + S1024x1024.size a ≤ S1024x8192.size a)
    (off3 : Fin 3 → Nat) (ho3 : off3 = ![0, 0, c]) (inb : ∀ a, off3 a + S1x512x1024.size a ≤ S1x512x2048.size a) (x : S1x512x1024.Idx) :
    k0_pay28 v (k0_pay27 (View.ld W (Rect.unit (s := S1024x8192) offW S1024x1024.size inbW))) x
      = gateG v W ((Rect.unit (s := S1x512x2048) off3 S1x512x1024.size inb).emb x) := by
  obtain ⟨r, e, rfl⟩ : ∃ (r : Fin 512) (e : Fin 1024), x = ix3 (0 : Fin 1) r e := ⟨x 1, x 2, funext fun a => by
    match a with
    | ⟨0, _⟩ => exact Subsingleton.elim (α := Fin 1) _ _
    | ⟨1, _⟩ => rfl
    | ⟨2, _⟩ => rfl⟩
  have he : (Rect.unit (s := S1x512x2048) off3 S1x512x1024.size inb).emb (ix3 (0 : Fin 1) r e) = ix3 (0 : Fin 1) r (⟨c + e.val, by omega⟩ : Fin 2048) := by
    subst ho3
    refine funext fun a => Fin.ext ?_
    match a with
    | ⟨0, _⟩ => rfl
    | ⟨1, _⟩ => show 0 + 1 * r.val = r.val; omega
    | ⟨2, _⟩ => show c + 1 * e.val = c + e.val; omega
  rw [he, pay28_at]
  show _ = ∑ d : Fin 1024, v (ix2 r d) * W (ix2 d ⟨6144 + (c + e.val), by omega⟩)
  refine Finset.sum_congr rfl fun d _ => ?_
  rw [ld_cols W (6144 + c) (by omega) offW hoW inbW d e]
  refine congrArg (fun k => v (ix2 r d) * W (ix2 d k)) (Fin.ext ?_)
  show 6144 + c + e.val = 6144 + (c + e.val)
  omega

/-- One third of the columns' store is a piece of the three-tap sum. -/
theorem piece_T (v : FVec Ideal S528x1024 .bf16) (W : Vec Ideal S1024x8192 .bf16) (cw : Vec Ideal S3x3072 .f32) (cb : Vec Ideal S1x3072 .f32) (c : Nat) (hc : c + 1024 ≤ 3072)
    (offW : Fin 2 → Nat) (hoW : offW = ![0, 3072 + c]) (inbW : ∀ a, offW a + S1024x1024.size a ≤ S1024x8192.size a)
    (offC : Fin 2 → Nat) (hoC : offC = ![0, c]) (inbC : ∀ a, offC a + S3x1024.size a ≤ S3x3072.size a) (inbB : ∀ a, offC a + S1x1024.size a ≤ S1x3072.size a)
    (inb7 : ∀ a, (![7, 0] : Fin 2 → Nat) a + S512x1024.size a ≤ S528x1024.size a) (inb8 : ∀ a, (![8, 0] : Fin 2 → Nat) a + S512x1024.size a ≤ S528x1024.size a)
    (inb9 : ∀ a, (![9, 0] : Fin 2 → Nat) a + S512x1024.size a ≤ S528x1024.size a)
    (off3 : Fin 3 → Nat) (ho3 : off3 = ![0, 0, c]) (inb : ∀ a, off3 a + S1x512x1024.size a ≤ S1x512x3072.size a) (x : S1x512x1024.Idx) :
    k0_pay46 (View.ld cw (Rect.unit (s := S3x3072) offC S3x1024.size inbC)) (View.ld cb (Rect.unit (s := S1x3072) offC S1x1024.size inbB))
        (View.ld (k0_pay45 v (View.ld W (Rect.unit (s := S1024x8192) offW S1024x1024.size inbW))) (Rect.unit (s := S528x1024) ![7, 0] S512x1024.size inb7))
        (View.ld (k0_pay45 v (View.ld W (Rect.unit (s := S1024x8192) offW S1024x1024.size inbW))) (Rect.unit (s := S528x1024) ![8, 0] S512x1024.size inb8))
        (View.ld (k0_pay45 v (View.ld W (Rect.unit (s := S1024x8192) offW S1024x1024.size inbW))) (Rect.unit (s := S528x1024) ![9, 0] S512x1024.size inb9)) x
      = tapG v W cw cb ((Rect.unit (s := S1x512x3072) off3 S1x512x1024.size inb).emb x) := by
  obtain ⟨r, e, rfl⟩ : ∃ (r : Fin 512) (e : Fin 1024), x = ix3 (0 : Fin 1) r e := ⟨x 1, x 2, funext fun a => by
    match a with
    | ⟨0, _⟩ => exact Subsingleton.elim (α := Fin 1) _ _
    | ⟨1, _⟩ => rfl
    | ⟨2, _⟩ => rfl⟩
  have he : (Rect.unit (s := S1x512x3072) off3 S1x512x1024.size inb).emb (ix3 (0 : Fin 1) r e) = ix3 (0 : Fin 1) r (⟨c + e.val, by omega⟩ : Fin 3072) := by
    subst ho3
    refine funext fun a => Fin.ext ?_
    match a with
    | ⟨0, _⟩ => rfl
    | ⟨1, _⟩ => show 0 + 1 * r.val = r.val; omega
    | ⟨2, _⟩ => show c + 1 * e.val = c + e.val; omega
  have hp : ∀ (R : Fin 528), k0_pay45 v (View.ld W (Rect.unit (s := S1024x8192) offW S1024x1024.size inbW)) (ix2 R e) = colsAt (fun d => v (ix2 R d)) W ⟨3072 + (c + e.val), by omega⟩ := fun R => by
    rw [pay45_at]
    unfold colsAt proj
    refine Finset.sum_congr rfl fun d _ => ?_
    rw [ld_cols W (3072 + c) (by omega) offW hoW inbW d e]
    refine congrArg (fun k => v (ix2 R d) * W (ix2 d k)) (Fin.ext ?_)
    show 3072 + c + e.val = 3072 + (c + e.val)
    omega
  rw [he, pay46_at, ld_rows _ 7 (by omega) _ rfl, ld_rows _ 8 (by omega) _ rfl, ld_rows _ 9 (by omega) _ rfl, hp, hp, hp,
    ld_cw cw c hc offC hoC inbC, ld_cw cw c hc offC hoC inbC, ld_cw cw c hc offC hoC inbC, ld_cb cb c hc offC hoC inbB]
  rfl

/-- The convolved block. -/
theorem out14_at (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8192 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S3x3072 .f32) (harg11 : arg11.IsWhole) (arg12 : Memref sig .tc .vmem S1x3072 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x3072 .bf16) (harg16 : arg16.IsWhole) (arg17 : Memref sig .tc .vmem S1x512x2048 .bf16) (harg17 : arg17.IsWhole) (arg18 : Memref sig .tc .vmem S528x1024 .f32) (harg18 : arg18.IsWhole)
    (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x8192 .bf16) (x7 : Vec Ideal S512x128 .f32) (x8 : Vec Ideal S512x128 .f32) (x9 : Vec Ideal S3x3072 .f32) (x10 : Vec Ideal S1x3072 .f32) (y : S1x512x3072.Idx) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
      = tapG (extOf (i 1) x0 x1 x2 x3 x4 x5) x6 x9 x10 y := by
  have hcov := cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  revert hcov
  unfold kernelRun0_A
  dsimp only
  sl_unfold_words
  have e0 : ∀ inb, View.ld x0 (Rect.unit (s := S1x512x1024) ![0, 0, 0] ![1, 512, 1024] inb) = x0 := fun inb => View.ld_unit_zero hz3 inb x0
  have e1 : ∀ inb, View.ld x1 (Rect.unit (s := S1x8x1024) ![0, 0, 0] ![1, 8, 1024] inb) = x1 := fun inb => View.ld_unit_zero hz3 inb x1
  have e2 : ∀ inb, View.ld x2 (Rect.unit (s := S1x8x1024) ![0, 0, 0] ![1, 8, 1024] inb) = x2 := fun inb => View.ld_unit_zero hz3 inb x2
  have e3 : ∀ inb, View.ld x3 (Rect.unit (s := S1x1x1024) ![0, 0, 0] ![1, 1, 1024] inb) = x3 := fun inb => View.ld_unit_zero hz3 inb x3
  have e4 : ∀ inb, View.ld x4 (Rect.unit (s := S1x1x1024) ![0, 0, 0] ![1, 1, 1024] inb) = x4 := fun inb => View.ld_unit_zero hz3 inb x4
  have e5 : ∀ inb, View.ld x5 (Rect.unit (s := S1x1024) ![0, 0] ![1, 1024] inb) = x5 := fun inb => View.ld_unit_zero hz2 inb x5
  have e7 : ∀ inb, View.ld x7 (Rect.unit (s := S512x128) ![0, 0] ![512, 128] inb) = x7 := fun inb => View.ld_unit_zero hz2 inb x7
  have e8 : ∀ inb, View.ld x8 (Rect.unit (s := S512x128) ![0, 0] ![512, 128] inb) = x8 := fun inb => View.ld_unit_zero hz2 inb x8
  have hfill : ∀ inb (Z : Vec Ideal S528x1024 .f32) (L : List (View.Piece (Elt Ideal) S528x1024 .f32)) (r : Rect S528x1024), arg18.view.readCov (⟨Rect.unit (s := S528x1024) ![0, 0] ![528, 1024] inb, Z⟩ :: L) r.toLoadRect = View.ld Z r :=
    fun inb Z L r => View.readCov_fill arg18.view inb Z L r (fun a => by fin_cases a <;> rfl)
  simp only [View.readAt_eq_ld, harg2.read_unread, harg3.read_unread, harg4.read_unread, harg5.read_unread, harg6.read_unread, harg7.read_unread, harg8.read_unread, harg9.read_unread, harg10.read_unread, harg11.read_unread, harg12.read_unread, e0, e1, e2, e3, e4, e5, e7, e8, hfill]
  intro hcov
  refine View.canon_apply_of_pieces (tapG (extOf (i 1) x0 x1 x2 x3 x4 x5) x6 x9 x10) _ (View.PiecesOf.mem ?_) y hcov
  exact ⟨
    fun x => piece_T (extOf (i 1) x0 x1 x2 x3 x4 x5) x6 x9 x10 2048 (by omega) _ rfl inb_S1024x8192_S1024x1024_0_5120 _ rfl inb_S3x3072_S3x1024_0_2048 inb_S1x3072_S1x1024_0_2048 inb_S528x1024_S512x1024_7_0 inb_S528x1024_S512x1024_8_0 inb_S528x1024_S512x1024_9_0 _ rfl inb_S1x512x3072_S1x512x1024_0_0_2048 x,
    fun x => piece_T (extOf (i 1) x0 x1 x2 x3 x4 x5) x6 x9 x10 1024 (by omega) _ rfl inb_S1024x8192_S1024x1024_0_4096 _ rfl inb_S3x3072_S3x1024_0_1024 inb_S1x3072_S1x1024_0_1024 inb_S528x1024_S512x1024_7_0 inb_S528x1024_S512x1024_8_0 inb_S528x1024_S512x1024_9_0 _ rfl inb_S1x512x3072_S1x512x1024_0_0_1024 x,
    fun x => piece_T (extOf (i 1) x0 x1 x2 x3 x4 x5) x6 x9 x10 0 (by omega) _ rfl inb_S1024x8192_S1024x1024_0_3072 _ rfl inb_S3x3072_S3x1024_0_0 inb_S1x3072_S1x1024_0_0 inb_S528x1024_S512x1024_7_0 inb_S528x1024_S512x1024_8_0 inb_S528x1024_S512x1024_9_0 _ rfl inb_S1x512x3072_S1x512x1024_0_0_0 x, trivial⟩

/-- The values block. -/
theorem out12_at (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8192 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S3x3072 .f32) (harg11 : arg11.IsWhole) (arg12 : Memref sig .tc .vmem S1x3072 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x3072 .bf16) (harg16 : arg16.IsWhole) (arg17 : Memref sig .tc .vmem S1x512x2048 .bf16) (harg17 : arg17.IsWhole) (arg18 : Memref sig .tc .vmem S528x1024 .f32) (harg18 : arg18.IsWhole)
    (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x8192 .bf16) (x7 : Vec Ideal S512x128 .f32) (x8 : Vec Ideal S512x128 .f32) (x9 : Vec Ideal S3x3072 .f32) (x10 : Vec Ideal S1x3072 .f32) (y : S1x512x1024.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
      = valG (rowsOf x0 x3 x4 x5) x6 y := by
  have hcov := cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  revert hcov
  unfold kernelRun0_A
  dsimp only
  sl_unfold_words
  have e0 : ∀ inb, View.ld x0 (Rect.unit (s := S1x512x1024) ![0, 0, 0] ![1, 512, 1024] inb) = x0 := fun inb => View.ld_unit_zero hz3 inb x0
  have e1 : ∀ inb, View.ld x1 (Rect.unit (s := S1x8x1024) ![0, 0, 0] ![1, 8, 1024] inb) = x1 := fun inb => View.ld_unit_zero hz3 inb x1
  have e2 : ∀ inb, View.ld x2 (Rect.unit (s := S1x8x1024) ![0, 0, 0] ![1, 8, 1024] inb) = x2 := fun inb => View.ld_unit_zero hz3 inb x2
  have e3 : ∀ inb, View.ld x3 (Rect.unit (s := S1x1x1024) ![0, 0, 0] ![1, 1, 1024] inb) = x3 := fun inb => View.ld_unit_zero hz3 inb x3
  have e4 : ∀ inb, View.ld x4 (Rect.unit (s := S1x1x1024) ![0, 0, 0] ![1, 1, 1024] inb) = x4 := fun inb => View.ld_unit_zero hz3 inb x4
  have e5 : ∀ inb, View.ld x5 (Rect.unit (s := S1x1024) ![0, 0] ![1, 1024] inb) = x5 := fun inb => View.ld_unit_zero hz2 inb x5
  have e7 : ∀ inb, View.ld x7 (Rect.unit (s := S512x128) ![0, 0] ![512, 128] inb) = x7 := fun inb => View.ld_unit_zero hz2 inb x7
  have e8 : ∀ inb, View.ld x8 (Rect.unit (s := S512x128) ![0, 0] ![512, 128] inb) = x8 := fun inb => View.ld_unit_zero hz2 inb x8
  simp only [View.readAt_eq_ld, harg2.read_unread, harg3.read_unread, harg4.read_unread, harg5.read_unread, harg6.read_unread, harg7.read_unread, harg8.read_unread, harg9.read_unread, harg10.read_unread, harg11.read_unread, harg12.read_unread, e0, e1, e2, e3, e4, e5, e7, e8]
  intro hcov
  refine View.canon_apply_of_pieces (valG (rowsOf x0 x3 x4 x5) x6) _ (View.PiecesOf.mem ?_) y hcov
  exact ⟨fun x => piece_V (rowsOf x0 x3 x4 x5) x6 0 (by omega) _ rfl _ _ rfl inb_S1x512x1024_S1x512x1024_0_0_0 x, trivial⟩

/-- The gates block. -/
theorem out15_at (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8192 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S3x3072 .f32) (harg11 : arg11.IsWhole) (arg12 : Memref sig .tc .vmem S1x3072 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x3072 .bf16) (harg16 : arg16.IsWhole) (arg17 : Memref sig .tc .vmem S1x512x2048 .bf16) (harg17 : arg17.IsWhole) (arg18 : Memref sig .tc .vmem S528x1024 .f32) (harg18 : arg18.IsWhole)
    (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x8192 .bf16) (x7 : Vec Ideal S512x128 .f32) (x8 : Vec Ideal S512x128 .f32) (x9 : Vec Ideal S3x3072 .f32) (x10 : Vec Ideal S1x3072 .f32) (y : S1x512x2048.Idx) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
      = gateG (rowsOf x0 x3 x4 x5) x6 y := by
  have hcov := cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  revert hcov
  unfold kernelRun0_A
  dsimp only
  sl_unfold_words
  have e0 : ∀ inb, View.ld x0 (Rect.unit (s := S1x512x1024) ![0, 0, 0] ![1, 512, 1024] inb) = x0 := fun inb => View.ld_unit_zero hz3 inb x0
  have e1 : ∀ inb, View.ld x1 (Rect.unit (s := S1x8x1024) ![0, 0, 0] ![1, 8, 1024] inb) = x1 := fun inb => View.ld_unit_zero hz3 inb x1
  have e2 : ∀ inb, View.ld x2 (Rect.unit (s := S1x8x1024) ![0, 0, 0] ![1, 8, 1024] inb) = x2 := fun inb => View.ld_unit_zero hz3 inb x2
  have e3 : ∀ inb, View.ld x3 (Rect.unit (s := S1x1x1024) ![0, 0, 0] ![1, 1, 1024] inb) = x3 := fun inb => View.ld_unit_zero hz3 inb x3
  have e4 : ∀ inb, View.ld x4 (Rect.unit (s := S1x1x1024) ![0, 0, 0] ![1, 1, 1024] inb) = x4 := fun inb => View.ld_unit_zero hz3 inb x4
  have e5 : ∀ inb, View.ld x5 (Rect.unit (s := S1x1024) ![0, 0] ![1, 1024] inb) = x5 := fun inb => View.ld_unit_zero hz2 inb x5
  have e7 : ∀ inb, View.ld x7 (Rect.unit (s := S512x128) ![0, 0] ![512, 128] inb) = x7 := fun inb => View.ld_unit_zero hz2 inb x7
  have e8 : ∀ inb, View.ld x8 (Rect.unit (s := S512x128) ![0, 0] ![512, 128] inb) = x8 := fun inb => View.ld_unit_zero hz2 inb x8
  simp only [View.readAt_eq_ld, harg2.read_unread, harg3.read_unread, harg4.read_unread, harg5.read_unread, harg6.read_unread, harg7.read_unread, harg8.read_unread, harg9.read_unread, harg10.read_unread, harg11.read_unread, harg12.read_unread, e0, e1, e2, e3, e4, e5, e7, e8]
  intro hcov
  refine View.canon_apply_of_pieces (gateG (rowsOf x0 x3 x4 x5) x6) _ (View.PiecesOf.mem ?_) y hcov
  exact ⟨fun x => piece_S (rowsOf x0 x3 x4 x5) x6 1024 (by omega) _ rfl _ _ rfl inb_S1x512x2048_S1x512x1024_0_0_1024 x, fun x => piece_S (rowsOf x0 x3 x4 x5) x6 0 (by omega) _ rfl _ _ rfl inb_S1x512x2048_S1x512x1024_0_0_0 x, trivial⟩

end Cert.Kernel2Ideal.Own
-- ==== Proof.InRows.lean ====
module

public import proofs.«01_k».proof.Proof.InBlocks
public import proofs.«01_k».proof.Proof.InOut

@[expose] public section

/-! The body's normalised rows at a grid point, as the reference's rows. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic
open Cert.Reference2Ideal.Own (Xs Mod Gain Wts Tap Bias hrow prow cosAt sinAt padrow)

variable (m : (ℓ : Loc nD τ sig) → Buf (Elt Ideal) ℓ) (c : Dev nD)

/-- The latent rows. -/
abbrev a0 : Xs := m ((c : Thread nD τ).loc main_arg0)
/-- The shift. -/
abbrev a1 : Mod := m ((c : Thread nD τ).loc main_arg1)
/-- The scale. -/
abbrev a2 : Mod := m ((c : Thread nD τ).loc main_arg2)
/-- The gain. -/
abbrev a3 : Gain := m ((c : Thread nD τ).loc main_arg3)
/-- The weights. -/
abbrev a4 : Wts := m ((c : Thread nD τ).loc main_arg4)
/-- The taps' weights. -/
abbrev a5 : Tap := m ((c : Thread nD τ).loc main_arg5)
/-- The taps' bias. -/
abbrev a6 : Bias := m ((c : Thread nD τ).loc main_arg6)

/-- A normalised row of the latent. -/
def H (b : Fin 8) (l : Fin 4096) : Fin 1024 → EReal := hrow (a0 m c) (a1 m c) (a2 m c) (a3 m c) b l

/-- The norm of a row equal to a latent row, with a grid point's gain, shift and scale. -/
theorem norm_row (t : Fin cfg0.N) (l : Fin 4096) (x : Fin 1024 → EReal) (hx : ∀ d, x d = a0 m c (ix3 (batch t) l d)) (d : Fin 1024) :
    normRow x (fun d => (iblk m c 5 t : Vec Ideal S1x1024 .f32) (ix2 0 d)) (fun d => (iblk m c 3 t : Vec Ideal S1x1x1024 .f32) (ix3 0 0 d))
      (fun d => (iblk m c 4 t : Vec Ideal S1x1x1024 .f32) (ix3 0 0 d)) d = H m c (batch t) l d := by
  rw [show x = fun d => a0 m c (ix3 (batch t) l d) from funext hx,
    show (fun d => (iblk m c 5 t : Vec Ideal S1x1024 .f32) (ix2 0 d)) = fun d => a3 m c (ix2 0 d) from funext fun d => g_at m c t d,
    show (fun d => (iblk m c 3 t : Vec Ideal S1x1x1024 .f32) (ix3 0 0 d)) = fun d => a1 m c (ix3 (batch t) 0 d) from funext fun d => sh_at m c t 0 d,
    show (fun d => (iblk m c 4 t : Vec Ideal S1x1x1024 .f32) (ix3 0 0 d)) = fun d => a2 m c (ix3 (batch t) 0 d) from funext fun d => sc_at m c t 0 d]
  rfl

/-- The block's normalised rows at a grid point. -/
theorem rows_at (t : Fin cfg0.N) (r : Fin 512) (d : Fin 1024) :
    rowsOf (iblk m c 0 t) (iblk m c 3 t) (iblk m c 4 t) (iblk m c 5 t) (ix2 r d) = H m c (batch t) (row t r) d := by
  unfold rowsOf
  refine (pay7_at _ _ _ _ r d).trans ?_
  exact norm_row m c t (row t r) _ (fun d => x_at m c t r d) d

/-- A normalised row of the latent by its position with one row of zeros before and after, or zero. -/
def pad (b : Fin 8) (n : Nat) (d : Fin 1024) : EReal := if h : 1 ≤ n ∧ n - 1 < 4096 then H m c b ⟨n - 1, h.2⟩ d else 0

/-- Whether rows come before the block. -/
theorem flag_prev : ∀ i : Fin 8, Scalar.cmpi .sgt (BitVec.ofNat 32 i.val) 0#32 = if 0 < i.val then 1#1 else 0#1 := by decide
/-- Whether rows come after the block. -/
theorem flag_next : ∀ i : Fin 8, Scalar.cmpi .slt (BitVec.ofNat 32 i.val) 7#32 = if i.val < 7 then 1#1 else 0#1 := by decide

/-- A grid point's extended rows. -/
abbrev ext (t : Fin cfg0.N) : FVec Ideal S528x1024 .bf16 :=
  extOf (grid0.coords t 1) (iblk m c 0 t) (iblk m c 1 t) (iblk m c 2 t) (iblk m c 3 t) (iblk m c 4 t) (iblk m c 5 t)

/-- The extended rows inside the block. -/
theorem mid_at (t : Fin cfg0.N) (r : Fin 512) (n : Nat) (hn : n = 1 + (row t r).val) (R : Fin 528) (hR : R.val = 8 + r.val) (d : Fin 1024) :
    ext m c t (ix2 R d) = pad m c (batch t) n d := by
  rw [show R = ⟨8 + r.val, by omega⟩ from Fin.ext hR]
  have hl := (row t r).isLt
  unfold pad
  rw [dif_pos ⟨by omega, by omega⟩]
  unfold ext extOf
  rw [ext_mid, pay7_at]
  refine (norm_row m c t (row t r) _ (fun d => x_at m c t r d) d).trans ?_
  refine congrArg (fun l => H m c (batch t) l d) (Fin.ext ?_)
  show (row t r).val = n - 1
  omega

/-- The extended row just before the block. -/
theorem prev_row (t : Fin cfg0.N) (R : Fin 528) (hR : R.val = 7) (d : Fin 1024) :
    ext m c t (ix2 R d) = pad m c (batch t) (row t 0).val d := by
  obtain rfl : R = ⟨(7 : Fin 8).val, by decide⟩ := Fin.ext hR
  have hl : (row t 0).val = t.val % 8 * 512 := rfl
  unfold ext extOf
  refine (ext_prev _ _ _ _ _ _ _ _ 7 d).trans ?_
  have hf := flag_prev (grid0.coords t 1)
  have hk := coord t
  unfold pad
  by_cases hi : 0 < t.val % 8
  · refine (congrArg (fun f => Scalar.select f _ _) (hf.trans (if_pos (by rw [hk]; exact hi)))).trans ?_
    rw [dif_pos ⟨by omega, by omega⟩]
    exact norm_row m c t _ _ (fun d => prev_at m c t 7 d hi) d
  · refine (congrArg (fun f => Scalar.select f _ _) (hf.trans (if_neg (by rw [hk]; exact hi)))).trans ?_
    rw [dif_neg (by omega)]
    show Ideal.ofBits .f32 0x00000000#32 = 0
    simp

/-- The extended row just after the block. -/
theorem next_row (t : Fin cfg0.N) (R : Fin 528) (hR : R.val = 520) (d : Fin 1024) :
    ext m c t (ix2 R d) = pad m c (batch t) (2 + (row t 511).val) d := by
  obtain rfl : R = ⟨520 + (0 : Fin 8).val, by decide⟩ := Fin.ext hR
  have hl : (row t 511).val = t.val % 8 * 512 + 511 := rfl
  unfold ext extOf
  refine (ext_next _ _ _ _ _ _ _ _ 0 d).trans ?_
  have hf := flag_next (grid0.coords t 1)
  have hk := coord t
  unfold pad
  by_cases hi : t.val % 8 < 7
  · refine (congrArg (fun f => Scalar.select f _ _) (hf.trans (if_pos (by rw [hk]; exact hi)))).trans ?_
    rw [dif_pos ⟨by omega, by omega⟩]
    refine (norm_row m c t ⟨(t.val % 8 + 1) * 512 + 0, by omega⟩ _ (fun d => next_at m c t 0 d hi) d).trans ?_
    refine congrArg (fun l => H m c (batch t) l d) (Fin.ext ?_)
    show (t.val % 8 + 1) * 512 + 0 = 2 + (row t 511).val - 1
    omega
  · refine (congrArg (fun f => Scalar.select f _ _) (hf.trans (if_neg (by rw [hk]; exact hi)))).trans ?_
    rw [dif_neg (by omega)]
    show Ideal.ofBits .f32 0x00000000#32 = 0
    simp

/-- The row before a row. -/
theorem ext7 (t : Fin cfg0.N) (r : Fin 512) (d : Fin 1024) : ext m c t (ix2 ⟨7 + r.val, by omega⟩ d) = pad m c (batch t) (row t r).val d := by
  by_cases hr : r.val = 0
  · obtain rfl : r = 0 := Fin.ext hr
    exact prev_row m c t _ rfl d
  · exact mid_at m c t ⟨r.val - 1, by omega⟩ _ (by show t.val % 8 * 512 + r.val = 1 + (t.val % 8 * 512 + (r.val - 1)); omega) _ (by show 7 + r.val = 8 + (r.val - 1); omega) d

/-- The row itself. -/
theorem ext8 (t : Fin cfg0.N) (r : Fin 512) (d : Fin 1024) : ext m c t (ix2 ⟨8 + r.val, by omega⟩ d) = pad m c (batch t) (1 + (row t r).val) d :=
  mid_at m c t r _ rfl _ rfl d

/-- The row after a row. -/
theorem ext9 (t : Fin cfg0.N) (r : Fin 512) (d : Fin 1024) : ext m c t (ix2 ⟨9 + r.val, by omega⟩ d) = pad m c (batch t) (2 + (row t r).val) d := by
  by_cases hr : r.val = 511
  · obtain rfl : r = 511 := Fin.ext hr
    exact next_row m c t _ rfl d
  · exact mid_at m c t ⟨r.val + 1, by omega⟩ _ (by show 2 + (t.val % 8 * 512 + r.val) = 1 + (t.val % 8 * 512 + (r.val + 1)); omega) _ (by show 9 + r.val = 8 + (r.val + 1); omega) d

/-- A normalised row times a column of a grid point's weights. -/
theorem cols_row (t : Fin cfg0.N) (l : Fin 4096) (h : Fin 1024 → EReal) (hh : ∀ d, h d = H m c (batch t) l d) (j : Fin 8192) :
    colsAt h (iblk m c 6 t) j = prow (a0 m c) (a1 m c) (a2 m c) (a3 m c) (a4 m c) (batch t) l j := by
  unfold colsAt prow proj
  refine Finset.sum_congr rfl fun d _ => ?_
  rw [hh d]
  exact congrArg (H m c (batch t) l d * ·) (w_at m c t d j)

/-- A padded row times a column of a grid point's weights. -/
theorem cols_pad (t : Fin cfg0.N) (n : Nat) (h : Fin 1024 → EReal) (hh : ∀ d, h d = pad m c (batch t) n d) (j : Fin 3072) :
    colsAt h (iblk m c 6 t) ⟨3072 + j.val, by omega⟩ = padrow (a0 m c) (a1 m c) (a2 m c) (a3 m c) (a4 m c) (batch t) n j := by
  unfold padrow
  by_cases hn : 1 ≤ n ∧ n - 1 < 4096
  · rw [dif_pos hn]
    exact cols_row m c t ⟨n - 1, hn.2⟩ h (fun d => by rw [hh d]; unfold pad; rw [dif_pos hn]) _
  · rw [dif_neg hn]
    unfold colsAt proj
    refine Finset.sum_eq_zero fun d _ => ?_
    rw [hh d]
    unfold pad
    rw [dif_neg hn, zero_mul]

/-- The rotated projection at a grid point. -/
theorem rotG_at (t : Fin cfg0.N) (c0 : Nat) (hc : c0 + 1024 ≤ 8192) (r : Fin 512) (e : Fin 1024) :
    rotG (rowsOf (iblk m c 0 t) (iblk m c 3 t) (iblk m c 4 t) (iblk m c 5 t)) (iblk m c 6 t) (iblk m c 7 t) (iblk m c 8 t) c0 hc (ix3 (0 : Fin 1) r e)
      = rot (fun j => prow (a0 m c) (a1 m c) (a2 m c) (a3 m c) (a4 m c) (batch t) (row t r) ⟨c0 + j.val, by omega⟩) (cosAt (row t r)) (sinAt (row t r)) e := by
  have h1 : (fun j : Fin 1024 => colsAt (fun d => rowsOf (iblk m c 0 t) (iblk m c 3 t) (iblk m c 4 t) (iblk m c 5 t) (ix2 r d)) (iblk m c 6 t) ⟨c0 + j.val, by omega⟩)
      = fun j => prow (a0 m c) (a1 m c) (a2 m c) (a3 m c) (a4 m c) (batch t) (row t r) ⟨c0 + j.val, by omega⟩ :=
    funext fun j => cols_row m c t (row t r) _ (fun d => rows_at m c t r d) _
  have h2 : (fun e => (iblk m c 7 t : Vec Ideal S512x128 .f32) (ix2 r e)) = cosAt (row t r) := funext fun e => cos_at m c t r e
  have h3 : (fun e => (iblk m c 8 t : Vec Ideal S512x128 .f32) (ix2 r e)) = sinAt (row t r) := funext fun e => sin_at m c t r e
  show rot (fun j : Fin 1024 => colsAt (fun d => rowsOf (iblk m c 0 t) (iblk m c 3 t) (iblk m c 4 t) (iblk m c 5 t) (ix2 r d)) (iblk m c 6 t) ⟨c0 + j.val, by omega⟩)
    (fun e => (iblk m c 7 t : Vec Ideal S512x128 .f32) (ix2 r e)) (fun e => (iblk m c 8 t : Vec Ideal S512x128 .f32) (ix2 r e)) e = _
  rw [h1, h2, h3]

/-- The three-tap sum at a grid point. -/
theorem tapG_at (t : Fin cfg0.N) (r : Fin 512) (j : Fin 3072) :
    tapG (ext m c t) (iblk m c 6 t) (iblk m c 9 t) (iblk m c 10 t) (ix3 (0 : Fin 1) r j)
      = taps (padrow (a0 m c) (a1 m c) (a2 m c) (a3 m c) (a4 m c) (batch t) (row t r).val j)
          (padrow (a0 m c) (a1 m c) (a2 m c) (a3 m c) (a4 m c) (batch t) (1 + (row t r).val) j)
          (padrow (a0 m c) (a1 m c) (a2 m c) (a3 m c) (a4 m c) (batch t) (2 + (row t r).val) j)
          (a5 m c (ix3 0 0 j)) (a5 m c (ix3 0 1 j)) (a5 m c (ix3 0 2 j)) (a6 m c (ix2 0 j)) := by
  show taps (colsAt (fun d => ext m c t (ix2 ⟨7 + r.val, by omega⟩ d)) (iblk m c 6 t) ⟨3072 + j.val, by omega⟩)
    (colsAt (fun d => ext m c t (ix2 ⟨8 + r.val, by omega⟩ d)) (iblk m c 6 t) ⟨3072 + j.val, by omega⟩)
    (colsAt (fun d => ext m c t (ix2 ⟨9 + r.val, by omega⟩ d)) (iblk m c 6 t) ⟨3072 + j.val, by omega⟩)
    ((iblk m c 9 t : Vec Ideal S3x3072 .f32) (ix2 0 j)) ((iblk m c 9 t : Vec Ideal S3x3072 .f32) (ix2 1 j)) ((iblk m c 9 t : Vec Ideal S3x3072 .f32) (ix2 2 j))
    ((iblk m c 10 t : Vec Ideal S1x3072 .f32) (ix2 0 j)) = _
  rw [cols_pad m c t _ _ (ext7 m c t r), cols_pad m c t _ _ (ext8 m c t r), cols_pad m c t _ _ (ext9 m c t r), cw_at, cw_at, cw_at, cb_at]

end Cert.Kernel2Ideal.Own
-- ==== Proof.InOutK.lean ====
module

public import proofs.«01_k».proof.Proof.InOut

@[expose] public section

/-! The keys' block the projection's body leaves, at an index, from the blocks it read. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic

/-- The cosines' block, recast to its own shape. -/
theorem pay12_eq (x : Vec Ideal S512x128 .f32) : k0_pay12 x = x := by
  funext j
  obtain ⟨r, e, rfl⟩ : ∃ (r : Fin 512) (e : Fin 128), j = ix2 r e := ⟨j 0, j 1, funext fun a => by
    match a with
    | ⟨0, _⟩ => rfl
    | ⟨1, _⟩ => rfl⟩
  pointwise [k0_pay12]

/-- The sines' block, recast to its own shape. -/
theorem pay13_eq (x : Vec Ideal S512x128 .f32) : k0_pay13 x = x := by
  funext j
  obtain ⟨r, e, rfl⟩ : ∃ (r : Fin 512) (e : Fin 128), j = ix2 r e := ⟨j 0, j 1, funext fun a => by
    match a with
    | ⟨0, _⟩ => rfl
    | ⟨1, _⟩ => rfl⟩
  pointwise [k0_pay13]

/-- The mask of the first halves. -/
theorem first_eq : k0_pay15 32#32 k0_pay14 = firstHalf := rfl

/-- The keys' head 0, as the rotation of that head. -/
theorem k_head0 (v : FVec Ideal S512x1024 .bf16) (W : Vec Ideal S1024x1024 .bf16) (cs sn : FVec Ideal S512x128 .f32) :
    k0_pay17 v cs sn 32#32 k0_pay14 W = k0_pay24 cs sn firstHalf (extractStridedSlice S512x128 ![0, 0] (k0_pay16 v W) slices_S512x1024_o0_0_S512x128) := rfl
/-- The keys' head 1, as the rotation of that head. -/
theorem k_head1 (v : FVec Ideal S512x1024 .bf16) (W : Vec Ideal S1024x1024 .bf16) (cs sn : FVec Ideal S512x128 .f32) :
    k0_pay19 (k0_pay18 v cs sn 32#32 k0_pay14 W) = k0_pay24 cs sn firstHalf (extractStridedSlice S512x128 ![0, 128] (k0_pay16 v W) slices_S512x1024_o0_128_S512x128) := rfl
/-- The keys' head 2, as the rotation of that head. -/
theorem k_head2 (v : FVec Ideal S512x1024 .bf16) (W : Vec Ideal S1024x1024 .bf16) (cs sn : FVec Ideal S512x128 .f32) :
    k0_pay20 cs sn firstHalf (k0_pay16 v W) = k0_pay24 cs sn firstHalf (extractStridedSlice S512x128 ![0, 256] (k0_pay16 v W) slices_S512x1024_o0_256_S512x128) := rfl
/-- The keys' head 3, as the rotation of that head. -/
theorem k_head3 (v : FVec Ideal S512x1024 .bf16) (W : Vec Ideal S1024x1024 .bf16) (cs sn : FVec Ideal S512x128 .f32) :
    k0_pay21 cs sn firstHalf (k0_pay16 v W) = k0_pay24 cs sn firstHalf (extractStridedSlice S512x128 ![0, 384] (k0_pay16 v W) slices_S512x1024_o0_384_S512x128) := rfl
/-- The keys' head 4, as the rotation of that head. -/
theorem k_head4 (v : FVec Ideal S512x1024 .bf16) (W : Vec Ideal S1024x1024 .bf16) (cs sn : FVec Ideal S512x128 .f32) :
    k0_pay22 cs sn firstHalf (k0_pay16 v W) = k0_pay24 cs sn firstHalf (extractStridedSlice S512x128 ![0, 512] (k0_pay16 v W) slices_S512x1024_o0_512_S512x128) := rfl
/-- The keys' head 5, as the rotation of that head. -/
theorem k_head5 (v : FVec Ideal S512x1024 .bf16) (W : Vec Ideal S1024x1024 .bf16) (cs sn : FVec Ideal S512x128 .f32) :
    k0_pay24 cs sn firstHalf (k0_pay23 (k0_pay16 v W)) = k0_pay24 cs sn firstHalf (extractStridedSlice S512x128 ![0, 640] (k0_pay16 v W) slices_S512x1024_o0_640_S512x128) := rfl
/-- The keys' head 6, as the rotation of that head. -/
theorem k_head6 (v : FVec Ideal S512x1024 .bf16) (W : Vec Ideal S1024x1024 .bf16) (cs sn : FVec Ideal S512x128 .f32) :
    k0_pay25 cs sn firstHalf (k0_pay16 v W) = k0_pay24 cs sn firstHalf (extractStridedSlice S512x128 ![0, 768] (k0_pay16 v W) slices_S512x1024_o0_768_S512x128) := rfl
/-- The keys' head 7, as the rotation of that head. -/
theorem k_head7 (v : FVec Ideal S512x1024 .bf16) (W : Vec Ideal S1024x1024 .bf16) (cs sn : FVec Ideal S512x128 .f32) :
    k0_pay26 cs sn firstHalf (k0_pay16 v W) = k0_pay24 cs sn firstHalf (extractStridedSlice S512x128 ![0, 896] (k0_pay16 v W) slices_S512x1024_o0_896_S512x128) := rfl
/-- The keys' head 0's store is a piece of the rotated projection. -/
theorem piece_K0 (v : FVec Ideal S512x1024 .bf16) (W : Vec Ideal S1024x8192 .bf16) (cs sn : FVec Ideal S512x128 .f32)
    (offW : Fin 2 → Nat) (hoW : offW = ![0, 0]) (inbW : ∀ a, offW a + S1024x1024.size a ≤ S1024x8192.size a)
    (inb : ∀ a, (![0, 0, 0] : Fin 3 → Nat) a + S1x512x128.size a ≤ S1x512x1024.size a) (x : S1x512x128.Idx) :
    k0_pay17 v cs sn 32#32 k0_pay14 (View.ld W (Rect.unit (s := S1024x8192) offW S1024x1024.size inbW)) x
      = rotG v W cs sn 0 (by omega) ((Rect.unit (s := S1x512x1024) ![0, 0, 0] S1x512x128.size inb).emb x) :=
  (congrFun (k_head0 v (View.ld W (Rect.unit (s := S1024x8192) offW S1024x1024.size inbW)) cs sn) x).trans (piece_G v W cs sn 0 (by omega) offW hoW inbW 0 ![0, 0] rfl slices_S512x1024_o0_0_S512x128 ![0, 0, 0] rfl inb x)

/-- The keys' head 1's store is a piece of the rotated projection. -/
theorem piece_K1 (v : FVec Ideal S512x1024 .bf16) (W : Vec Ideal S1024x8192 .bf16) (cs sn : FVec Ideal S512x128 .f32)
    (offW : Fin 2 → Nat) (hoW : offW = ![0, 0]) (inbW : ∀ a, offW a + S1024x1024.size a ≤ S1024x8192.size a)
    (inb : ∀ a, (![0, 0, 128] : Fin 3 → Nat) a + S1x512x128.size a ≤ S1x512x1024.size a) (x : S1x512x128.Idx) :
    k0_pay19 (k0_pay18 v cs sn 32#32 k0_pay14 (View.ld W (Rect.unit (s := S1024x8192) offW S1024x1024.size inbW))) x
      = rotG v W cs sn 0 (by omega) ((Rect.unit (s := S1x512x1024) ![0, 0, 128] S1x512x128.size inb).emb x) :=
  (congrFun (k_head1 v (View.ld W (Rect.unit (s := S1024x8192) offW S1024x1024.size inbW)) cs sn) x).trans (piece_G v W cs sn 0 (by omega) offW hoW inbW 1 ![0, 128] rfl slices_S512x1024_o0_128_S512x128 ![0, 0, 128] rfl inb x)

/-- The keys' head 2's store is a piece of the rotated projection. -/
theorem piece_K2 (v : FVec Ideal S512x1024 .bf16) (W : Vec Ideal S1024x8192 .bf16) (cs sn : FVec Ideal S512x128 .f32)
    (offW : Fin 2 → Nat) (hoW : offW = ![0, 0]) (inbW : ∀ a, offW a + S1024x1024.size a ≤ S1024x8192.size a)
    (inb : ∀ a, (![0, 0, 256] : Fin 3 → Nat) a + S1x512x128.size a ≤ S1x512x1024.size a) (x : S1x512x128.Idx) :
    k0_pay20 cs sn firstHalf (k0_pay16 v (View.ld W (Rect.unit (s := S1024x8192) offW S1024x1024.size inbW))) x
      = rotG v W cs sn 0 (by omega) ((Rect.unit (s := S1x512x1024) ![0, 0, 256] S1x512x128.size inb).emb x) :=
  (congrFun (k_head2 v (View.ld W (Rect.unit (s := S1024x8192) offW S1024x1024.size inbW)) cs sn) x).trans (piece_G v W cs sn 0 (by omega) offW hoW inbW 2 ![0, 256] rfl slices_S512x1024_o0_256_S512x128 ![0, 0, 256] rfl inb x)

/-- The keys' head 3's store is a piece of the rotated projection. -/
theorem piece_K3 (v : FVec Ideal S512x1024 .bf16) (W : Vec Ideal S1024x8192 .bf16) (cs sn : FVec Ideal S512x128 .f32)
    (offW : Fin 2 → Nat) (hoW : offW = ![0, 0]) (inbW : ∀ a, offW a + S1024x1024.size a ≤ S1024x8192.size a)
    (inb : ∀ a, (![0, 0, 384] : Fin 3 → Nat) a + S1x512x128.size a ≤ S1x512x1024.size a) (x : S1x512x128.Idx) :
    k0_pay21 cs sn firstHalf (k0_pay16 v (View.ld W (Rect.unit (s := S1024x8192) offW S1024x1024.size inbW))) x
      = rotG v W cs sn 0 (by omega) ((Rect.unit (s := S1x512x1024) ![0, 0, 384] S1x512x128.size inb).emb x) :=
  (congrFun (k_head3 v (View.ld W (Rect.unit (s := S1024x8192) offW S1024x1024.size inbW)) cs sn) x).trans (piece_G v W cs sn 0 (by omega) offW hoW inbW 3 ![0, 384] rfl slices_S512x1024_o0_384_S512x128 ![0, 0, 384] rfl inb x)

/-- The keys' head 4's store is a piece of the rotated projection. -/
theorem piece_K4 (v : FVec Ideal S512x1024 .bf16) (W : Vec Ideal S1024x8192 .bf16) (cs sn : FVec Ideal S512x128 .f32)
    (offW : Fin 2 → Nat) (hoW : offW = ![0, 0]) (inbW : ∀ a, offW a + S1024x1024.size a ≤ S1024x8192.size a)
    (inb : ∀ a, (![0, 0, 512] : Fin 3 → Nat) a + S1x512x128.size a ≤ S1x512x1024.size a) (x : S1x512x128.Idx) :
    k0_pay22 cs sn firstHalf (k0_pay16 v (View.ld W (Rect.unit (s := S1024x8192) offW S1024x1024.size inbW))) x
      = rotG v W cs sn 0 (by omega) ((Rect.unit (s := S1x512x1024) ![0, 0, 512] S1x512x128.size inb).emb x) :=
  (congrFun (k_head4 v (View.ld W (Rect.unit (s := S1024x8192) offW S1024x1024.size inbW)) cs sn) x).trans (piece_G v W cs sn 0 (by omega) offW hoW inbW 4 ![0, 512] rfl slices_S512x1024_o0_512_S512x128 ![0, 0, 512] rfl inb x)

/-- The keys' head 5's store is a piece of the rotated projection. -/
theorem piece_K5 (v : FVec Ideal S512x1024 .bf16) (W : Vec Ideal S1024x8192 .bf16) (cs sn : FVec Ideal S512x128 .f32)
    (offW : Fin 2 → Nat) (hoW : offW = ![0, 0]) (inbW : ∀ a, offW a + S1024x1024.size a ≤ S1024x8192.size a)
    (inb : ∀ a, (![0, 0, 640] : Fin 3 → Nat) a + S1x512x128.size a ≤ S1x512x1024.size a) (x : S1x512x128.Idx) :
    k0_pay24 cs sn firstHalf (k0_pay23 (k0_pay16 v (View.ld W (Rect.unit (s := S1024x8192) offW S1024x1024.size inbW)))) x
      = rotG v W cs sn 0 (by omega) ((Rect.unit (s := S1x512x1024) ![0, 0, 640] S1x512x128.size inb).emb x) :=
  (congrFun (k_head5 v (View.ld W (Rect.unit (s := S1024x8192) offW S1024x1024.size inbW)) cs sn) x).trans (piece_G v W cs sn 0 (by omega) offW hoW inbW 5 ![0, 640] rfl slices_S512x1024_o0_640_S512x128 ![0, 0, 640] rfl inb x)

/-- The keys' head 6's store is a piece of the rotated projection. -/
theorem piece_K6 (v : FVec Ideal S512x1024 .bf16) (W : Vec Ideal S1024x8192 .bf16) (cs sn : FVec Ideal S512x128 .f32)
    (offW : Fin 2 → Nat) (hoW : offW = ![0, 0]) (inbW : ∀ a, offW a + S1024x1024.size a ≤ S1024x8192.size a)
    (inb : ∀ a, (![0, 0, 768] : Fin 3 → Nat) a + S1x512x128.size a ≤ S1x512x1024.size a) (x : S1x512x128.Idx) :
    k0_pay25 cs sn firstHalf (k0_pay16 v (View.ld W (Rect.unit (s := S1024x8192) offW S1024x1024.size inbW))) x
      = rotG v W cs sn 0 (by omega) ((Rect.unit (s := S1x512x1024) ![0, 0, 768] S1x512x128.size inb).emb x) :=
  (congrFun (k_head6 v (View.ld W (Rect.unit (s := S1024x8192) offW S1024x1024.size inbW)) cs sn) x).trans (piece_G v W cs sn 0 (by omega) offW hoW inbW 6 ![0, 768] rfl slices_S512x1024_o0_768_S512x128 ![0, 0, 768] rfl inb x)

/-- The keys' head 7's store is a piece of the rotated projection. -/
theorem piece_K7 (v : FVec Ideal S512x1024 .bf16) (W : Vec Ideal S1024x8192 .bf16) (cs sn : FVec Ideal S512x128 .f32)
    (offW : Fin 2 → Nat) (hoW : offW = ![0, 0]) (inbW : ∀ a, offW a + S1024x1024.size a ≤ S1024x8192.size a)
    (inb : ∀ a, (![0, 0, 896] : Fin 3 → Nat) a + S1x512x128.size a ≤ S1x512x1024.size a) (x : S1x512x128.Idx) :
    k0_pay26 cs sn firstHalf (k0_pay16 v (View.ld W (Rect.unit (s := S1024x8192) offW S1024x1024.size inbW))) x
      = rotG v W cs sn 0 (by omega) ((Rect.unit (s := S1x512x1024) ![0, 0, 896] S1x512x128.size inb).emb x) :=
  (congrFun (k_head7 v (View.ld W (Rect.unit (s := S1024x8192) offW S1024x1024.size inbW)) cs sn) x).trans (piece_G v W cs sn 0 (by omega) offW hoW inbW 7 ![0, 896] rfl slices_S512x1024_o0_896_S512x128 ![0, 0, 896] rfl inb x)

/-- The keys block. -/
theorem out11_at (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8192 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S3x3072 .f32) (harg11 : arg11.IsWhole) (arg12 : Memref sig .tc .vmem S1x3072 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x3072 .bf16) (harg16 : arg16.IsWhole) (arg17 : Memref sig .tc .vmem S1x512x2048 .bf16) (harg17 : arg17.IsWhole) (arg18 : Memref sig .tc .vmem S528x1024 .f32) (harg18 : arg18.IsWhole)
    (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x8192 .bf16) (x7 : Vec Ideal S512x128 .f32) (x8 : Vec Ideal S512x128 .f32) (x9 : Vec Ideal S3x3072 .f32) (x10 : Vec Ideal S1x3072 .f32) (y : S1x512x1024.Idx) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
      = rotG (rowsOf x0 x3 x4 x5) x6 x7 x8 0 (by omega) y := by
  have hcov := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  revert hcov
  unfold kernelRun0_A
  dsimp only
  sl_unfold_words
  have e0 : ∀ inb, View.ld x0 (Rect.unit (s := S1x512x1024) ![0, 0, 0] ![1, 512, 1024] inb) = x0 := fun inb => View.ld_unit_zero hz3 inb x0
  have e1 : ∀ inb, View.ld x1 (Rect.unit (s := S1x8x1024) ![0, 0, 0] ![1, 8, 1024] inb) = x1 := fun inb => View.ld_unit_zero hz3 inb x1
  have e2 : ∀ inb, View.ld x2 (Rect.unit (s := S1x8x1024) ![0, 0, 0] ![1, 8, 1024] inb) = x2 := fun inb => View.ld_unit_zero hz3 inb x2
  have e3 : ∀ inb, View.ld x3 (Rect.unit (s := S1x1x1024) ![0, 0, 0] ![1, 1, 1024] inb) = x3 := fun inb => View.ld_unit_zero hz3 inb x3
  have e4 : ∀ inb, View.ld x4 (Rect.unit (s := S1x1x1024) ![0, 0, 0] ![1, 1, 1024] inb) = x4 := fun inb => View.ld_unit_zero hz3 inb x4
  have e5 : ∀ inb, View.ld x5 (Rect.unit (s := S1x1024) ![0, 0] ![1, 1024] inb) = x5 := fun inb => View.ld_unit_zero hz2 inb x5
  have e7 : ∀ inb, View.ld x7 (Rect.unit (s := S512x128) ![0, 0] ![512, 128] inb) = x7 := fun inb => View.ld_unit_zero hz2 inb x7
  have e8 : ∀ inb, View.ld x8 (Rect.unit (s := S512x128) ![0, 0] ![512, 128] inb) = x8 := fun inb => View.ld_unit_zero hz2 inb x8
  simp only [View.readAt_eq_ld, harg2.read_unread, harg3.read_unread, harg4.read_unread, harg5.read_unread, harg6.read_unread, harg7.read_unread, harg8.read_unread, harg9.read_unread, harg10.read_unread, harg11.read_unread, harg12.read_unread, e0, e1, e2, e3, e4, e5, e7, e8, pay12_eq, pay13_eq, first_eq]
  intro hcov
  refine View.canon_apply_of_pieces (rotG (rowsOf x0 x3 x4 x5) x6 x7 x8 0 (by omega)) _ (View.PiecesOf.mem ?_) y hcov
  exact ⟨
    fun x => piece_K7 (rowsOf x0 x3 x4 x5) x6 x7 x8 _ rfl inb_S1024x8192_S1024x1024_0_0 inb_S1x512x1024_S1x512x128_0_0_896 x,
    fun x => piece_K6 (rowsOf x0 x3 x4 x5) x6 x7 x8 _ rfl inb_S1024x8192_S1024x1024_0_0 inb_S1x512x1024_S1x512x128_0_0_768 x,
    fun x => piece_K5 (rowsOf x0 x3 x4 x5) x6 x7 x8 _ rfl inb_S1024x8192_S1024x1024_0_0 inb_S1x512x1024_S1x512x128_0_0_640 x,
    fun x => piece_K4 (rowsOf x0 x3 x4 x5) x6 x7 x8 _ rfl inb_S1024x8192_S1024x1024_0_0 inb_S1x512x1024_S1x512x128_0_0_512 x,
    fun x => piece_K3 (rowsOf x0 x3 x4 x5) x6 x7 x8 _ rfl inb_S1024x8192_S1024x1024_0_0 inb_S1x512x1024_S1x512x128_0_0_384 x,
    fun x => piece_K2 (rowsOf x0 x3 x4 x5) x6 x7 x8 _ rfl inb_S1024x8192_S1024x1024_0_0 inb_S1x512x1024_S1x512x128_0_0_256 x,
    fun x => piece_K1 (rowsOf x0 x3 x4 x5) x6 x7 x8 _ rfl inb_S1024x8192_S1024x1024_0_0 inb_S1x512x1024_S1x512x128_0_0_128 x,
    fun x => piece_K0 (rowsOf x0 x3 x4 x5) x6 x7 x8 _ rfl inb_S1024x8192_S1024x1024_0_0 inb_S1x512x1024_S1x512x128_0_0_0 x, trivial⟩

end Cert.Kernel2Ideal.Own
-- ==== Proof.InWhole0.lean ====
module

public import proofs.«01_k».proof.Proof.InRows
public import proofs.«01_k».proof.Proof.InOutK

@[expose] public section

/-! The array of the keys ends as the reference's. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic Idealize.SL.Sem
open Cert.Reference2Ideal.Own (prow cosAt sinAt padrow)
open Cert.Reference2Ideal.Read (val_main_v135 val_main_v136 val_main_v137 val_main_v138 val_main_v139)

variable (m : (ℓ : Loc nD τ sig) → Buf (Elt Ideal) ℓ) (c : Dev nD)

/-- The reference's keys of the arguments in the kernel's memory. -/
def answer0 : Buf (Elt Ideal) ((c : Thread nD τ).loc main_v56_0) := val_main_v135 (F := Ideal) (a0 m c) (a1 m c) (a2 m c) (a3 m c) (a4 m c)

/-- The block index of the keys at a grid point. -/
theorem index_out0 : ∀ t : Fin cfg0.N, win0_11.index t 0 = t.val / 8 ∧ win0_11.index t 1 = t.val % 8 ∧ win0_11.index t 2 = 0 :=
  (by decide +kernel : ∀ t : Fin grid0.N, win0_11.index t 0 = t.val / 8 ∧ win0_11.index t 1 = t.val % 8 ∧ win0_11.index t 2 = 0)

/-- Cutting a block of the keys that lies inside the array leaves it as it is. -/
theorem cut_out0 (t : Fin cfg0.N) (x : Vec Ideal S1x512x1024 .bf16) (r : Fin 512) (e : Fin 1024) :
    (cfg0.win 11).cut (grid0.coords t) x (ix3 (0 : Fin 1) r e) = x (ix3 (0 : Fin 1) r e) := rfl

/-- A grid point's block of an array, at an index. -/
theorem read_out0 (t : Fin cfg0.N) (A : Buf (Elt Ideal) ((c : Thread nD τ).loc main_v56_0)) (r : Fin 512) (e : Fin 1024) :
    ((cfg0.win 11).blk t).view.read (Elt Ideal) A (ix3 (0 : Fin 1) r e) = (A : Vec Ideal S8x4096x1024 .bf16) (ix3 (batch t) (row t r) e) := by
  obtain ⟨i0, i1, i2⟩ := index_out0 t
  rw [View.read_apply]
  refine congrArg A (funext fun a => Fin.ext ?_)
  match a with
  | ⟨0, _⟩ => show win0_11.index t 0 * 1 + 1 * 0 = t.val / 8; rw [i0]; omega
  | ⟨1, _⟩ => show win0_11.index t 1 * 512 + 1 * r.val = t.val % 8 * 512 + r.val; rw [i1]; omega
  | ⟨2, _⟩ => show win0_11.index t 2 * 1024 + 1 * e.val = e.val; rw [i2]; omega

/-- What a grid point writes back is that block of the reference's keys. -/
theorem flushed_eq0 (t : Fin cfg0.N) : (dats m 0 c).flushed 11 t = ((cfg0.win 11).blk t).view.read (Elt Ideal) (answer0 m c) := by
  rw [Value.flushed11_A]
  funext j
  obtain ⟨r, e, rfl⟩ : ∃ (r : Fin 512) (e : Fin 1024), j = ix3 (0 : Fin 1) r e := by
    refine ⟨j 1, j 2, funext fun a => ?_⟩
    match a with
    | ⟨0, _⟩ => exact Subsingleton.elim (α := Fin 1) _ _
    | ⟨1, _⟩ => rfl
    | ⟨2, _⟩ => rfl
  refine Eq.trans ?_ (read_out0 c t (answer0 m c) r e).symm
  refine (cut_out0 t _ r e).trans ?_
  refine (out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r e)).trans ?_
  refine (rotG_at m c t 0 (by omega) r e).trans ?_
  exact (Cert.Reference2Ideal.Own.v135_at (a0 m c) (a1 m c) (a2 m c) (a3 m c) (a4 m c) (batch t) (row t r) e).symm

/-- The blocks of the keys lie wholly inside the array. -/
theorem size_out0 : ∀ t : Fin cfg0.N, win0_11.xsize (grid0.coords t) 0 = 1 ∧ win0_11.xsize (grid0.coords t) 1 = 512 ∧ win0_11.xsize (grid0.coords t) 2 = 1024 :=
  (by decide +kernel : ∀ t : Fin grid0.N, win0_11.xsize (grid0.coords t) 0 = 1 ∧ win0_11.xsize (grid0.coords t) 1 = 512 ∧ win0_11.xsize (grid0.coords t) 2 = 1024)
/-- Every grid point writes its block of the keys back. -/
theorem flush_out0 : ∀ t : Fin cfg0.N, (cfg0.win 11).flush t = true :=
  (by decide +kernel : ∀ t : Fin grid0.N, win0_11.flush t = true)

/-- The array of the keys ends as the reference's. -/
theorem final_out0 : (dats m 0 c).arrAt 11 cfg0.N = answer0 m c :=
  (dats m 0 c).arrAt_eq_of_cover 11 (answer0 m c) (fun t _ => flushed_eq0 m c t) fun i => by
    have h0 : (i 0 : Nat) < 8 := (i 0).isLt
    have h1 : (i 1 : Nat) < 4096 := (i 1).isLt
    have h2 : (i 2 : Nat) < 1024 := (i 2).isLt
    have hN : cfg0.N = 64 := N_0
    have ht : (i 0 : Nat) * 8 + (i 1 : Nat) / 512 < cfg0.N := by rw [hN]; omega
    obtain ⟨i0, i1, i2⟩ := index_out0 ⟨_, ht⟩
    obtain ⟨s0, s1, s2⟩ := size_out0 ⟨_, ht⟩
    refine ⟨⟨_, ht⟩, flush_out0 _, ?_⟩
    show i ∈ ((View.whole main_v56_0).slice (win0_11.rect ⟨_, ht⟩)).set
    rw [View.set_slice_whole, Rect.mem_set_unit]
    intro a
    match a with
    | ⟨0, _⟩ =>
      show win0_11.index ⟨_, ht⟩ 0 * 1 ≤ (i 0 : Nat) ∧ (i 0 : Nat) < win0_11.index ⟨_, ht⟩ 0 * 1 + win0_11.xsize (grid0.coords ⟨_, ht⟩) 0
      rw [i0, s0]; dsimp only; omega
    | ⟨1, _⟩ =>
      show win0_11.index ⟨_, ht⟩ 1 * 512 ≤ (i 1 : Nat) ∧ (i 1 : Nat) < win0_11.index ⟨_, ht⟩ 1 * 512 + win0_11.xsize (grid0.coords ⟨_, ht⟩) 1
      rw [i1, s1]; dsimp only; omega
    | ⟨2, _⟩ =>
      show win0_11.index ⟨_, ht⟩ 2 * 1024 ≤ (i 2 : Nat) ∧ (i 2 : Nat) < win0_11.index ⟨_, ht⟩ 2 * 1024 + win0_11.xsize (grid0.coords ⟨_, ht⟩) 2
      rw [i2, s2]; omega

end Cert.Kernel2Ideal.Own
-- ==== Proof.InWhole1.lean ====
module

public import proofs.«01_k».proof.Proof.InRows

@[expose] public section

/-! The array of the values ends as the reference's. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic Idealize.SL.Sem
open Cert.Reference2Ideal.Own (prow cosAt sinAt padrow)
open Cert.Reference2Ideal.Read (val_main_v135 val_main_v136 val_main_v137 val_main_v138 val_main_v139)

variable (m : (ℓ : Loc nD τ sig) → Buf (Elt Ideal) ℓ) (c : Dev nD)

/-- The reference's values of the arguments in the kernel's memory. -/
def answer1 : Buf (Elt Ideal) ((c : Thread nD τ).loc main_v56_1) := val_main_v136 (F := Ideal) (a0 m c) (a1 m c) (a2 m c) (a3 m c) (a4 m c)

/-- The block index of the values at a grid point. -/
theorem index_out1 : ∀ t : Fin cfg0.N, win0_12.index t 0 = t.val / 8 ∧ win0_12.index t 1 = t.val % 8 ∧ win0_12.index t 2 = 0 :=
  (by decide +kernel : ∀ t : Fin grid0.N, win0_12.index t 0 = t.val / 8 ∧ win0_12.index t 1 = t.val % 8 ∧ win0_12.index t 2 = 0)

/-- Cutting a block of the values that lies inside the array leaves it as it is. -/
theorem cut_out1 (t : Fin cfg0.N) (x : Vec Ideal S1x512x1024 .bf16) (r : Fin 512) (e : Fin 1024) :
    (cfg0.win 12).cut (grid0.coords t) x (ix3 (0 : Fin 1) r e) = x (ix3 (0 : Fin 1) r e) := rfl

/-- A grid point's block of an array, at an index. -/
theorem read_out1 (t : Fin cfg0.N) (A : Buf (Elt Ideal) ((c : Thread nD τ).loc main_v56_1)) (r : Fin 512) (e : Fin 1024) :
    ((cfg0.win 12).blk t).view.read (Elt Ideal) A (ix3 (0 : Fin 1) r e) = (A : Vec Ideal S8x4096x1024 .bf16) (ix3 (batch t) (row t r) e) := by
  obtain ⟨i0, i1, i2⟩ := index_out1 t
  rw [View.read_apply]
  refine congrArg A (funext fun a => Fin.ext ?_)
  match a with
  | ⟨0, _⟩ => show win0_12.index t 0 * 1 + 1 * 0 = t.val / 8; rw [i0]; omega
  | ⟨1, _⟩ => show win0_12.index t 1 * 512 + 1 * r.val = t.val % 8 * 512 + r.val; rw [i1]; omega
  | ⟨2, _⟩ => show win0_12.index t 2 * 1024 + 1 * e.val = e.val; rw [i2]; omega

/-- What a grid point writes back is that block of the reference's values. -/
theorem flushed_eq1 (t : Fin cfg0.N) : (dats m 0 c).flushed 12 t = ((cfg0.win 12).blk t).view.read (Elt Ideal) (answer1 m c) := by
  rw [Value.flushed12_A]
  funext j
  obtain ⟨r, e, rfl⟩ : ∃ (r : Fin 512) (e : Fin 1024), j = ix3 (0 : Fin 1) r e := by
    refine ⟨j 1, j 2, funext fun a => ?_⟩
    match a with
    | ⟨0, _⟩ => exact Subsingleton.elim (α := Fin 1) _ _
    | ⟨1, _⟩ => rfl
    | ⟨2, _⟩ => rfl
  refine Eq.trans ?_ (read_out1 c t (answer1 m c) r e).symm
  refine (cut_out1 t _ r e).trans ?_
  refine (out12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r e)).trans ?_
  refine (cols_row m c t (row t r) _ (fun d => rows_at m c t r d) ⟨1024 + e.val, by omega⟩).trans ?_
  exact (Cert.Reference2Ideal.Own.v136_at (a0 m c) (a1 m c) (a2 m c) (a3 m c) (a4 m c) (batch t) (row t r) e).symm

/-- The blocks of the values lie wholly inside the array. -/
theorem size_out1 : ∀ t : Fin cfg0.N, win0_12.xsize (grid0.coords t) 0 = 1 ∧ win0_12.xsize (grid0.coords t) 1 = 512 ∧ win0_12.xsize (grid0.coords t) 2 = 1024 :=
  (by decide +kernel : ∀ t : Fin grid0.N, win0_12.xsize (grid0.coords t) 0 = 1 ∧ win0_12.xsize (grid0.coords t) 1 = 512 ∧ win0_12.xsize (grid0.coords t) 2 = 1024)
/-- Every grid point writes its block of the values back. -/
theorem flush_out1 : ∀ t : Fin cfg0.N, (cfg0.win 12).flush t = true :=
  (by decide +kernel : ∀ t : Fin grid0.N, win0_12.flush t = true)

/-- The array of the values ends as the reference's. -/
theorem final_out1 : (dats m 0 c).arrAt 12 cfg0.N = answer1 m c :=
  (dats m 0 c).arrAt_eq_of_cover 12 (answer1 m c) (fun t _ => flushed_eq1 m c t) fun i => by
    have h0 : (i 0 : Nat) < 8 := (i 0).isLt
    have h1 : (i 1 : Nat) < 4096 := (i 1).isLt
    have h2 : (i 2 : Nat) < 1024 := (i 2).isLt
    have hN : cfg0.N = 64 := N_0
    have ht : (i 0 : Nat) * 8 + (i 1 : Nat) / 512 < cfg0.N := by rw [hN]; omega
    obtain ⟨i0, i1, i2⟩ := index_out1 ⟨_, ht⟩
    obtain ⟨s0, s1, s2⟩ := size_out1 ⟨_, ht⟩
    refine ⟨⟨_, ht⟩, flush_out1 _, ?_⟩
    show i ∈ ((View.whole main_v56_1).slice (win0_12.rect ⟨_, ht⟩)).set
    rw [View.set_slice_whole, Rect.mem_set_unit]
    intro a
    match a with
    | ⟨0, _⟩ =>
      show win0_12.index ⟨_, ht⟩ 0 * 1 ≤ (i 0 : Nat) ∧ (i 0 : Nat) < win0_12.index ⟨_, ht⟩ 0 * 1 + win0_12.xsize (grid0.coords ⟨_, ht⟩) 0
      rw [i0, s0]; dsimp only; omega
    | ⟨1, _⟩ =>
      show win0_12.index ⟨_, ht⟩ 1 * 512 ≤ (i 1 : Nat) ∧ (i 1 : Nat) < win0_12.index ⟨_, ht⟩ 1 * 512 + win0_12.xsize (grid0.coords ⟨_, ht⟩) 1
      rw [i1, s1]; dsimp only; omega
    | ⟨2, _⟩ =>
      show win0_12.index ⟨_, ht⟩ 2 * 1024 ≤ (i 2 : Nat) ∧ (i 2 : Nat) < win0_12.index ⟨_, ht⟩ 2 * 1024 + win0_12.xsize (grid0.coords ⟨_, ht⟩) 2
      rw [i2, s2]; omega

end Cert.Kernel2Ideal.Own
-- ==== Proof.InOutQ.lean ====
module

public import proofs.«01_k».proof.Proof.InOutK

@[expose] public section

/-! The queries' block the projection's body leaves, at an index, from the blocks it read. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic

/-- The queries' head 0's store is a piece of the rotated projection. -/
theorem piece_Q0 (v : FVec Ideal S512x1024 .bf16) (W : Vec Ideal S1024x8192 .bf16) (cs sn : FVec Ideal S512x128 .f32)
    (offW : Fin 2 → Nat) (hoW : offW = ![0, 2048]) (inbW : ∀ a, offW a + S1024x1024.size a ≤ S1024x8192.size a)
    (inb : ∀ a, (![0, 0, 0] : Fin 3 → Nat) a + S1x512x128.size a ≤ S1x512x1024.size a) (x : S1x512x128.Idx) :
    k0_pay30 v cs sn firstHalf (View.ld W (Rect.unit (s := S1024x8192) offW S1024x1024.size inbW)) x
      = rotG v W cs sn 2048 (by omega) ((Rect.unit (s := S1x512x1024) ![0, 0, 0] S1x512x128.size inb).emb x) :=
  (congrFun (q_head0 v (View.ld W (Rect.unit (s := S1024x8192) offW S1024x1024.size inbW)) cs sn) x).trans (piece_G v W cs sn 2048 (by omega) offW hoW inbW 0 ![0, 0] rfl slices_S512x1024_o0_0_S512x128 ![0, 0, 0] rfl inb x)

/-- The queries' head 1's store is a piece of the rotated projection. -/
theorem piece_Q1 (v : FVec Ideal S512x1024 .bf16) (W : Vec Ideal S1024x8192 .bf16) (cs sn : FVec Ideal S512x128 .f32)
    (offW : Fin 2 → Nat) (hoW : offW = ![0, 2048]) (inbW : ∀ a, offW a + S1024x1024.size a ≤ S1024x8192.size a)
    (inb : ∀ a, (![0, 0, 128] : Fin 3 → Nat) a + S1x512x128.size a ≤ S1x512x1024.size a) (x : S1x512x128.Idx) :
    k0_pay31 v cs sn firstHalf (View.ld W (Rect.unit (s := S1024x8192) offW S1024x1024.size inbW)) x
      = rotG v W cs sn 2048 (by omega) ((Rect.unit (s := S1x512x1024) ![0, 0, 128] S1x512x128.size inb).emb x) :=
  (congrFun (q_head1 v (View.ld W (Rect.unit (s := S1024x8192) offW S1024x1024.size inbW)) cs sn) x).trans (piece_G v W cs sn 2048 (by omega) offW hoW inbW 1 ![0, 128] rfl slices_S512x1024_o0_128_S512x128 ![0, 0, 128] rfl inb x)

/-- The queries' head 2's store is a piece of the rotated projection. -/
theorem piece_Q2 (v : FVec Ideal S512x1024 .bf16) (W : Vec Ideal S1024x8192 .bf16) (cs sn : FVec Ideal S512x128 .f32)
    (offW : Fin 2 → Nat) (hoW : offW = ![0, 2048]) (inbW : ∀ a, offW a + S1024x1024.size a ≤ S1024x8192.size a)
    (inb : ∀ a, (![0, 0, 256] : Fin 3 → Nat) a + S1x512x128.size a ≤ S1x512x1024.size a) (x : S1x512x128.Idx) :
    k0_pay36 cs sn (k0_pay32 v (View.ld W (Rect.unit (s := S1024x8192) offW S1024x1024.size inbW))) (k0_pay33 v (View.ld W (Rect.unit (s := S1024x8192) offW S1024x1024.size inbW))) (k0_pay34 v (View.ld W (Rect.unit (s := S1024x8192) offW S1024x1024.size inbW))) (k0_pay35 firstHalf) x
      = rotG v W cs sn 2048 (by omega) ((Rect.unit (s := S1x512x1024) ![0, 0, 256] S1x512x128.size inb).emb x) :=
  (congrFun (q_head2 v (View.ld W (Rect.unit (s := S1024x8192) offW S1024x1024.size inbW)) cs sn) x).trans (piece_G v W cs sn 2048 (by omega) offW hoW inbW 2 ![0, 256] rfl slices_S512x1024_o0_256_S512x128 ![0, 0, 256] rfl inb x)

/-- The queries' head 3's store is a piece of the rotated projection. -/
theorem piece_Q3 (v : FVec Ideal S512x1024 .bf16) (W : Vec Ideal S1024x8192 .bf16) (cs sn : FVec Ideal S512x128 .f32)
    (offW : Fin 2 → Nat) (hoW : offW = ![0, 2048]) (inbW : ∀ a, offW a + S1024x1024.size a ≤ S1024x8192.size a)
    (inb : ∀ a, (![0, 0, 384] : Fin 3 → Nat) a + S1x512x128.size a ≤ S1x512x1024.size a) (x : S1x512x128.Idx) :
    k0_pay37 cs sn firstHalf (k0_pay29 v (View.ld W (Rect.unit (s := S1024x8192) offW S1024x1024.size inbW))) x
      = rotG v W cs sn 2048 (by omega) ((Rect.unit (s := S1x512x1024) ![0, 0, 384] S1x512x128.size inb).emb x) :=
  (congrFun (q_head3 v (View.ld W (Rect.unit (s := S1024x8192) offW S1024x1024.size inbW)) cs sn) x).trans (piece_G v W cs sn 2048 (by omega) offW hoW inbW 3 ![0, 384] rfl slices_S512x1024_o0_384_S512x128 ![0, 0, 384] rfl inb x)

/-- The queries' head 4's store is a piece of the rotated projection. -/
theorem piece_Q4 (v : FVec Ideal S512x1024 .bf16) (W : Vec Ideal S1024x8192 .bf16) (cs sn : FVec Ideal S512x128 .f32)
    (offW : Fin 2 → Nat) (hoW : offW = ![0, 2048]) (inbW : ∀ a, offW a + S1024x1024.size a ≤ S1024x8192.size a)
    (inb : ∀ a, (![0, 0, 512] : Fin 3 → Nat) a + S1x512x128.size a ≤ S1x512x1024.size a) (x : S1x512x128.Idx) :
    k0_pay38 cs sn firstHalf (k0_pay29 v (View.ld W (Rect.unit (s := S1024x8192) offW S1024x1024.size inbW))) x
      = rotG v W cs sn 2048 (by omega) ((Rect.unit (s := S1x512x1024) ![0, 0, 512] S1x512x128.size inb).emb x) :=
  (congrFun (q_head4 v (View.ld W (Rect.unit (s := S1024x8192) offW S1024x1024.size inbW)) cs sn) x).trans (piece_G v W cs sn 2048 (by omega) offW hoW inbW 4 ![0, 512] rfl slices_S512x1024_o0_512_S512x128 ![0, 0, 512] rfl inb x)

/-- The queries' head 5's store is a piece of the rotated projection. -/
theorem piece_Q5 (v : FVec Ideal S512x1024 .bf16) (W : Vec Ideal S1024x8192 .bf16) (cs sn : FVec Ideal S512x128 .f32)
    (offW : Fin 2 → Nat) (hoW : offW = ![0, 2048]) (inbW : ∀ a, offW a + S1024x1024.size a ≤ S1024x8192.size a)
    (inb : ∀ a, (![0, 0, 640] : Fin 3 → Nat) a + S1x512x128.size a ≤ S1x512x1024.size a) (x : S1x512x128.Idx) :
    k0_pay42 sn (k0_pay40 firstHalf (k0_pay29 v (View.ld W (Rect.unit (s := S1024x8192) offW S1024x1024.size inbW)))) (k0_pay41 cs (k0_pay29 v (View.ld W (Rect.unit (s := S1024x8192) offW S1024x1024.size inbW)))) x
      = rotG v W cs sn 2048 (by omega) ((Rect.unit (s := S1x512x1024) ![0, 0, 640] S1x512x128.size inb).emb x) :=
  (congrFun (q_head5 v (View.ld W (Rect.unit (s := S1024x8192) offW S1024x1024.size inbW)) cs sn) x).trans (piece_G v W cs sn 2048 (by omega) offW hoW inbW 5 ![0, 640] rfl slices_S512x1024_o0_640_S512x128 ![0, 0, 640] rfl inb x)

/-- The queries' head 6's store is a piece of the rotated projection. -/
theorem piece_Q6 (v : FVec Ideal S512x1024 .bf16) (W : Vec Ideal S1024x8192 .bf16) (cs sn : FVec Ideal S512x128 .f32)
    (offW : Fin 2 → Nat) (hoW : offW = ![0, 2048]) (inbW : ∀ a, offW a + S1024x1024.size a ≤ S1024x8192.size a)
    (inb : ∀ a, (![0, 0, 768] : Fin 3 → Nat) a + S1x512x128.size a ≤ S1x512x1024.size a) (x : S1x512x128.Idx) :
    k0_pay43 cs sn firstHalf (k0_pay29 v (View.ld W (Rect.unit (s := S1024x8192) offW S1024x1024.size inbW))) x
      = rotG v W cs sn 2048 (by omega) ((Rect.unit (s := S1x512x1024) ![0, 0, 768] S1x512x128.size inb).emb x) :=
  (congrFun (q_head6 v (View.ld W (Rect.unit (s := S1024x8192) offW S1024x1024.size inbW)) cs sn) x).trans (piece_G v W cs sn 2048 (by omega) offW hoW inbW 6 ![0, 768] rfl slices_S512x1024_o0_768_S512x128 ![0, 0, 768] rfl inb x)

/-- The queries' head 7's store is a piece of the rotated projection. -/
theorem piece_Q7 (v : FVec Ideal S512x1024 .bf16) (W : Vec Ideal S1024x8192 .bf16) (cs sn : FVec Ideal S512x128 .f32)
    (offW : Fin 2 → Nat) (hoW : offW = ![0, 2048]) (inbW : ∀ a, offW a + S1024x1024.size a ≤ S1024x8192.size a)
    (inb : ∀ a, (![0, 0, 896] : Fin 3 → Nat) a + S1x512x128.size a ≤ S1x512x1024.size a) (x : S1x512x128.Idx) :
    k0_pay44 cs sn firstHalf (k0_pay29 v (View.ld W (Rect.unit (s := S1024x8192) offW S1024x1024.size inbW))) x
      = rotG v W cs sn 2048 (by omega) ((Rect.unit (s := S1x512x1024) ![0, 0, 896] S1x512x128.size inb).emb x) :=
  (congrFun (q_head7 v (View.ld W (Rect.unit (s := S1024x8192) offW S1024x1024.size inbW)) cs sn) x).trans (piece_G v W cs sn 2048 (by omega) offW hoW inbW 7 ![0, 896] rfl slices_S512x1024_o0_896_S512x128 ![0, 0, 896] rfl inb x)

/-- The queries block. -/
theorem out13_at (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x8192 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S3x3072 .f32) (harg11 : arg11.IsWhole) (arg12 : Memref sig .tc .vmem S1x3072 .f32) (harg12 : arg12.IsWhole) (arg13 : Memref sig .tc .vmem S1x512x1024 .bf16) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x3072 .bf16) (harg16 : arg16.IsWhole) (arg17 : Memref sig .tc .vmem S1x512x2048 .bf16) (harg17 : arg17.IsWhole) (arg18 : Memref sig .tc .vmem S528x1024 .f32) (harg18 : arg18.IsWhole)
    (x0 : Vec Ideal S1x512x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x8192 .bf16) (x7 : Vec Ideal S512x128 .f32) (x8 : Vec Ideal S512x128 .f32) (x9 : Vec Ideal S3x3072 .f32) (x10 : Vec Ideal S1x3072 .f32) (y : S1x512x1024.Idx) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
      = rotG (rowsOf x0 x3 x4 x5) x6 x7 x8 2048 (by omega) y := by
  have hcov := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 y
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  revert hcov
  unfold kernelRun0_A
  dsimp only
  sl_unfold_words
  have e0 : ∀ inb, View.ld x0 (Rect.unit (s := S1x512x1024) ![0, 0, 0] ![1, 512, 1024] inb) = x0 := fun inb => View.ld_unit_zero hz3 inb x0
  have e1 : ∀ inb, View.ld x1 (Rect.unit (s := S1x8x1024) ![0, 0, 0] ![1, 8, 1024] inb) = x1 := fun inb => View.ld_unit_zero hz3 inb x1
  have e2 : ∀ inb, View.ld x2 (Rect.unit (s := S1x8x1024) ![0, 0, 0] ![1, 8, 1024] inb) = x2 := fun inb => View.ld_unit_zero hz3 inb x2
  have e3 : ∀ inb, View.ld x3 (Rect.unit (s := S1x1x1024) ![0, 0, 0] ![1, 1, 1024] inb) = x3 := fun inb => View.ld_unit_zero hz3 inb x3
  have e4 : ∀ inb, View.ld x4 (Rect.unit (s := S1x1x1024) ![0, 0, 0] ![1, 1, 1024] inb) = x4 := fun inb => View.ld_unit_zero hz3 inb x4
  have e5 : ∀ inb, View.ld x5 (Rect.unit (s := S1x1024) ![0, 0] ![1, 1024] inb) = x5 := fun inb => View.ld_unit_zero hz2 inb x5
  have e7 : ∀ inb, View.ld x7 (Rect.unit (s := S512x128) ![0, 0] ![512, 128] inb) = x7 := fun inb => View.ld_unit_zero hz2 inb x7
  have e8 : ∀ inb, View.ld x8 (Rect.unit (s := S512x128) ![0, 0] ![512, 128] inb) = x8 := fun inb => View.ld_unit_zero hz2 inb x8
  simp only [View.readAt_eq_ld, harg2.read_unread, harg3.read_unread, harg4.read_unread, harg5.read_unread, harg6.read_unread, harg7.read_unread, harg8.read_unread, harg9.read_unread, harg10.read_unread, harg11.read_unread, harg12.read_unread, e0, e1, e2, e3, e4, e5, e7, e8, pay12_eq, pay13_eq, first_eq]
  intro hcov
  refine View.canon_apply_of_pieces (rotG (rowsOf x0 x3 x4 x5) x6 x7 x8 2048 (by omega)) _ (View.PiecesOf.mem ?_) y hcov
  exact ⟨
    fun x => piece_Q7 (rowsOf x0 x3 x4 x5) x6 x7 x8 _ rfl inb_S1024x8192_S1024x1024_0_2048 inb_S1x512x1024_S1x512x128_0_0_896 x,
    fun x => piece_Q6 (rowsOf x0 x3 x4 x5) x6 x7 x8 _ rfl inb_S1024x8192_S1024x1024_0_2048 inb_S1x512x1024_S1x512x128_0_0_768 x,
    fun x => piece_Q5 (rowsOf x0 x3 x4 x5) x6 x7 x8 _ rfl inb_S1024x8192_S1024x1024_0_2048 inb_S1x512x1024_S1x512x128_0_0_640 x,
    fun x => piece_Q4 (rowsOf x0 x3 x4 x5) x6 x7 x8 _ rfl inb_S1024x8192_S1024x1024_0_2048 inb_S1x512x1024_S1x512x128_0_0_512 x,
    fun x => piece_Q3 (rowsOf x0 x3 x4 x5) x6 x7 x8 _ rfl inb_S1024x8192_S1024x1024_0_2048 inb_S1x512x1024_S1x512x128_0_0_384 x,
    fun x => piece_Q2 (rowsOf x0 x3 x4 x5) x6 x7 x8 _ rfl inb_S1024x8192_S1024x1024_0_2048 inb_S1x512x1024_S1x512x128_0_0_256 x,
    fun x => piece_Q1 (rowsOf x0 x3 x4 x5) x6 x7 x8 _ rfl inb_S1024x8192_S1024x1024_0_2048 inb_S1x512x1024_S1x512x128_0_0_128 x,
    fun x => piece_Q0 (rowsOf x0 x3 x4 x5) x6 x7 x8 _ rfl inb_S1024x8192_S1024x1024_0_2048 inb_S1x512x1024_S1x512x128_0_0_0 x, trivial⟩

end Cert.Kernel2Ideal.Own
-- ==== Proof.InWhole2.lean ====
module

public import proofs.«01_k».proof.Proof.InRows
public import proofs.«01_k».proof.Proof.InOutQ

@[expose] public section

/-! The array of the queries ends as the reference's. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic Idealize.SL.Sem
open Cert.Reference2Ideal.Own (prow cosAt sinAt padrow)
open Cert.Reference2Ideal.Read (val_main_v135 val_main_v136 val_main_v137 val_main_v138 val_main_v139)

variable (m : (ℓ : Loc nD τ sig) → Buf (Elt Ideal) ℓ) (c : Dev nD)

/-- The reference's queries of the arguments in the kernel's memory. -/
def answer2 : Buf (Elt Ideal) ((c : Thread nD τ).loc main_v56_2) := val_main_v137 (F := Ideal) (a0 m c) (a1 m c) (a2 m c) (a3 m c) (a4 m c)

/-- The block index of the queries at a grid point. -/
theorem index_out2 : ∀ t : Fin cfg0.N, win0_13.index t 0 = t.val / 8 ∧ win0_13.index t 1 = t.val % 8 ∧ win0_13.index t 2 = 0 :=
  (by decide +kernel : ∀ t : Fin grid0.N, win0_13.index t 0 = t.val / 8 ∧ win0_13.index t 1 = t.val % 8 ∧ win0_13.index t 2 = 0)

/-- Cutting a block of the queries that lies inside the array leaves it as it is. -/
theorem cut_out2 (t : Fin cfg0.N) (x : Vec Ideal S1x512x1024 .bf16) (r : Fin 512) (e : Fin 1024) :
    (cfg0.win 13).cut (grid0.coords t) x (ix3 (0 : Fin 1) r e) = x (ix3 (0 : Fin 1) r e) := rfl

/-- A grid point's block of an array, at an index. -/
theorem read_out2 (t : Fin cfg0.N) (A : Buf (Elt Ideal) ((c : Thread nD τ).loc main_v56_2)) (r : Fin 512) (e : Fin 1024) :
    ((cfg0.win 13).blk t).view.read (Elt Ideal) A (ix3 (0 : Fin 1) r e) = (A : Vec Ideal S8x4096x1024 .bf16) (ix3 (batch t) (row t r) e) := by
  obtain ⟨i0, i1, i2⟩ := index_out2 t
  rw [View.read_apply]
  refine congrArg A (funext fun a => Fin.ext ?_)
  match a with
  | ⟨0, _⟩ => show win0_13.index t 0 * 1 + 1 * 0 = t.val / 8; rw [i0]; omega
  | ⟨1, _⟩ => show win0_13.index t 1 * 512 + 1 * r.val = t.val % 8 * 512 + r.val; rw [i1]; omega
  | ⟨2, _⟩ => show win0_13.index t 2 * 1024 + 1 * e.val = e.val; rw [i2]; omega

/-- What a grid point writes back is that block of the reference's queries. -/
theorem flushed_eq2 (t : Fin cfg0.N) : (dats m 0 c).flushed 13 t = ((cfg0.win 13).blk t).view.read (Elt Ideal) (answer2 m c) := by
  rw [Value.flushed13_A]
  funext j
  obtain ⟨r, e, rfl⟩ : ∃ (r : Fin 512) (e : Fin 1024), j = ix3 (0 : Fin 1) r e := by
    refine ⟨j 1, j 2, funext fun a => ?_⟩
    match a with
    | ⟨0, _⟩ => exact Subsingleton.elim (α := Fin 1) _ _
    | ⟨1, _⟩ => rfl
    | ⟨2, _⟩ => rfl
  refine Eq.trans ?_ (read_out2 c t (answer2 m c) r e).symm
  refine (cut_out2 t _ r e).trans ?_
  refine (out13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r e)).trans ?_
  refine (rotG_at m c t 2048 (by omega) r e).trans ?_
  exact (Cert.Reference2Ideal.Own.v137_at (a0 m c) (a1 m c) (a2 m c) (a3 m c) (a4 m c) (batch t) (row t r) e).symm

/-- The blocks of the queries lie wholly inside the array. -/
theorem size_out2 : ∀ t : Fin cfg0.N, win0_13.xsize (grid0.coords t) 0 = 1 ∧ win0_13.xsize (grid0.coords t) 1 = 512 ∧ win0_13.xsize (grid0.coords t) 2 = 1024 :=
  (by decide +kernel : ∀ t : Fin grid0.N, win0_13.xsize (grid0.coords t) 0 = 1 ∧ win0_13.xsize (grid0.coords t) 1 = 512 ∧ win0_13.xsize (grid0.coords t) 2 = 1024)
/-- Every grid point writes its block of the queries back. -/
theorem flush_out2 : ∀ t : Fin cfg0.N, (cfg0.win 13).flush t = true :=
  (by decide +kernel : ∀ t : Fin grid0.N, win0_13.flush t = true)

/-- The array of the queries ends as the reference's. -/
theorem final_out2 : (dats m 0 c).arrAt 13 cfg0.N = answer2 m c :=
  (dats m 0 c).arrAt_eq_of_cover 13 (answer2 m c) (fun t _ => flushed_eq2 m c t) fun i => by
    have h0 : (i 0 : Nat) < 8 := (i 0).isLt
    have h1 : (i 1 : Nat) < 4096 := (i 1).isLt
    have h2 : (i 2 : Nat) < 1024 := (i 2).isLt
    have hN : cfg0.N = 64 := N_0
    have ht : (i 0 : Nat) * 8 + (i 1 : Nat) / 512 < cfg0.N := by rw [hN]; omega
    obtain ⟨i0, i1, i2⟩ := index_out2 ⟨_, ht⟩
    obtain ⟨s0, s1, s2⟩ := size_out2 ⟨_, ht⟩
    refine ⟨⟨_, ht⟩, flush_out2 _, ?_⟩
    show i ∈ ((View.whole main_v56_2).slice (win0_13.rect ⟨_, ht⟩)).set
    rw [View.set_slice_whole, Rect.mem_set_unit]
    intro a
    match a with
    | ⟨0, _⟩ =>
      show win0_13.index ⟨_, ht⟩ 0 * 1 ≤ (i 0 : Nat) ∧ (i 0 : Nat) < win0_13.index ⟨_, ht⟩ 0 * 1 + win0_13.xsize (grid0.coords ⟨_, ht⟩) 0
      rw [i0, s0]; dsimp only; omega
    | ⟨1, _⟩ =>
      show win0_13.index ⟨_, ht⟩ 1 * 512 ≤ (i 1 : Nat) ∧ (i 1 : Nat) < win0_13.index ⟨_, ht⟩ 1 * 512 + win0_13.xsize (grid0.coords ⟨_, ht⟩) 1
      rw [i1, s1]; dsimp only; omega
    | ⟨2, _⟩ =>
      show win0_13.index ⟨_, ht⟩ 2 * 1024 ≤ (i 2 : Nat) ∧ (i 2 : Nat) < win0_13.index ⟨_, ht⟩ 2 * 1024 + win0_13.xsize (grid0.coords ⟨_, ht⟩) 2
      rw [i2, s2]; omega

end Cert.Kernel2Ideal.Own
-- ==== Proof.InWhole3.lean ====
module

public import proofs.«01_k».proof.Proof.InRows

@[expose] public section

/-! The array of the convolved columns ends as the reference's. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic Idealize.SL.Sem
open Cert.Reference2Ideal.Own (prow cosAt sinAt padrow)
open Cert.Reference2Ideal.Read (val_main_v135 val_main_v136 val_main_v137 val_main_v138 val_main_v139)

variable (m : (ℓ : Loc nD τ sig) → Buf (Elt Ideal) ℓ) (c : Dev nD)

/-- The reference's convolved columns of the arguments in the kernel's memory. -/
def answer3 : Buf (Elt Ideal) ((c : Thread nD τ).loc main_v56_3) := val_main_v138 (F := Ideal) (a0 m c) (a1 m c) (a2 m c) (a3 m c) (a4 m c) (a5 m c) (a6 m c)

/-- The block index of the convolved columns at a grid point. -/
theorem index_out3 : ∀ t : Fin cfg0.N, win0_14.index t 0 = t.val / 8 ∧ win0_14.index t 1 = t.val % 8 ∧ win0_14.index t 2 = 0 :=
  (by decide +kernel : ∀ t : Fin grid0.N, win0_14.index t 0 = t.val / 8 ∧ win0_14.index t 1 = t.val % 8 ∧ win0_14.index t 2 = 0)

/-- Cutting a block of the convolved columns that lies inside the array leaves it as it is. -/
theorem cut_out3 (t : Fin cfg0.N) (x : Vec Ideal S1x512x3072 .bf16) (r : Fin 512) (e : Fin 3072) :
    (cfg0.win 14).cut (grid0.coords t) x (ix3 (0 : Fin 1) r e) = x (ix3 (0 : Fin 1) r e) := rfl

/-- A grid point's block of an array, at an index. -/
theorem read_out3 (t : Fin cfg0.N) (A : Buf (Elt Ideal) ((c : Thread nD τ).loc main_v56_3)) (r : Fin 512) (e : Fin 3072) :
    ((cfg0.win 14).blk t).view.read (Elt Ideal) A (ix3 (0 : Fin 1) r e) = (A : Vec Ideal S8x4096x3072 .bf16) (ix3 (batch t) (row t r) e) := by
  obtain ⟨i0, i1, i2⟩ := index_out3 t
  rw [View.read_apply]
  refine congrArg A (funext fun a => Fin.ext ?_)
  match a with
  | ⟨0, _⟩ => show win0_14.index t 0 * 1 + 1 * 0 = t.val / 8; rw [i0]; omega
  | ⟨1, _⟩ => show win0_14.index t 1 * 512 + 1 * r.val = t.val % 8 * 512 + r.val; rw [i1]; omega
  | ⟨2, _⟩ => show win0_14.index t 2 * 3072 + 1 * e.val = e.val; rw [i2]; omega

/-- What a grid point writes back is that block of the reference's convolved columns. -/
theorem flushed_eq3 (t : Fin cfg0.N) : (dats m 0 c).flushed 14 t = ((cfg0.win 14).blk t).view.read (Elt Ideal) (answer3 m c) := by
  rw [Value.flushed14_A]
  funext j
  obtain ⟨r, e, rfl⟩ : ∃ (r : Fin 512) (e : Fin 3072), j = ix3 (0 : Fin 1) r e := by
    refine ⟨j 1, j 2, funext fun a => ?_⟩
    match a with
    | ⟨0, _⟩ => exact Subsingleton.elim (α := Fin 1) _ _
    | ⟨1, _⟩ => rfl
    | ⟨2, _⟩ => rfl
  refine Eq.trans ?_ (read_out3 c t (answer3 m c) r e).symm
  refine (cut_out3 t _ r e).trans ?_
  refine (out14_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r e)).trans ?_
  refine (tapG_at m c t r e).trans ?_
  exact (Cert.Reference2Ideal.Own.v138_at (a0 m c) (a1 m c) (a2 m c) (a3 m c) (a4 m c) (a5 m c) (a6 m c) (batch t) (row t r) e).symm

/-- The blocks of the convolved columns lie wholly inside the array. -/
theorem size_out3 : ∀ t : Fin cfg0.N, win0_14.xsize (grid0.coords t) 0 = 1 ∧ win0_14.xsize (grid0.coords t) 1 = 512 ∧ win0_14.xsize (grid0.coords t) 2 = 3072 :=
  (by decide +kernel : ∀ t : Fin grid0.N, win0_14.xsize (grid0.coords t) 0 = 1 ∧ win0_14.xsize (grid0.coords t) 1 = 512 ∧ win0_14.xsize (grid0.coords t) 2 = 3072)
/-- Every grid point writes its block of the convolved columns back. -/
theorem flush_out3 : ∀ t : Fin cfg0.N, (cfg0.win 14).flush t = true :=
  (by decide +kernel : ∀ t : Fin grid0.N, win0_14.flush t = true)

/-- The array of the convolved columns ends as the reference's. -/
theorem final_out3 : (dats m 0 c).arrAt 14 cfg0.N = answer3 m c :=
  (dats m 0 c).arrAt_eq_of_cover 14 (answer3 m c) (fun t _ => flushed_eq3 m c t) fun i => by
    have h0 : (i 0 : Nat) < 8 := (i 0).isLt
    have h1 : (i 1 : Nat) < 4096 := (i 1).isLt
    have h2 : (i 2 : Nat) < 3072 := (i 2).isLt
    have hN : cfg0.N = 64 := N_0
    have ht : (i 0 : Nat) * 8 + (i 1 : Nat) / 512 < cfg0.N := by rw [hN]; omega
    obtain ⟨i0, i1, i2⟩ := index_out3 ⟨_, ht⟩
    obtain ⟨s0, s1, s2⟩ := size_out3 ⟨_, ht⟩
    refine ⟨⟨_, ht⟩, flush_out3 _, ?_⟩
    show i ∈ ((View.whole main_v56_3).slice (win0_14.rect ⟨_, ht⟩)).set
    rw [View.set_slice_whole, Rect.mem_set_unit]
    intro a
    match a with
    | ⟨0, _⟩ =>
      show win0_14.index ⟨_, ht⟩ 0 * 1 ≤ (i 0 : Nat) ∧ (i 0 : Nat) < win0_14.index ⟨_, ht⟩ 0 * 1 + win0_14.xsize (grid0.coords ⟨_, ht⟩) 0
      rw [i0, s0]; dsimp only; omega
    | ⟨1, _⟩ =>
      show win0_14.index ⟨_, ht⟩ 1 * 512 ≤ (i 1 : Nat) ∧ (i 1 : Nat) < win0_14.index ⟨_, ht⟩ 1 * 512 + win0_14.xsize (grid0.coords ⟨_, ht⟩) 1
      rw [i1, s1]; dsimp only; omega
    | ⟨2, _⟩ =>
      show win0_14.index ⟨_, ht⟩ 2 * 3072 ≤ (i 2 : Nat) ∧ (i 2 : Nat) < win0_14.index ⟨_, ht⟩ 2 * 3072 + win0_14.xsize (grid0.coords ⟨_, ht⟩) 2
      rw [i2, s2]; omega

end Cert.Kernel2Ideal.Own
-- ==== Proof.InWhole4.lean ====
module

public import proofs.«01_k».proof.Proof.InRows

@[expose] public section

/-! The array of the gates ends as the reference's. -/

set_option maxRecDepth 16384

noncomputable section
namespace Cert.Kernel2Ideal.Own

open Cert.Kernel2Ideal Cert.Kernel2Ideal.Gen Cert.In
open Idealize.ShloMosaic Idealize.ShloMosaic.TcCoe Idealize.ShloMosaic.Tactic Idealize.SL.Sem
open Cert.Reference2Ideal.Own (prow cosAt sinAt padrow)
open Cert.Reference2Ideal.Read (val_main_v135 val_main_v136 val_main_v137 val_main_v138 val_main_v139)

variable (m : (ℓ : Loc nD τ sig) → Buf (Elt Ideal) ℓ) (c : Dev nD)

/-- The reference's gates of the arguments in the kernel's memory. -/
def answer4 : Buf (Elt Ideal) ((c : Thread nD τ).loc main_v56_4) := val_main_v139 (F := Ideal) (a0 m c) (a1 m c) (a2 m c) (a3 m c) (a4 m c)

/-- The block index of the gates at a grid point. -/
theorem index_out4 : ∀ t : Fin cfg0.N, win0_15.index t 0 = t.val / 8 ∧ win0_15.index t 1 = t.val % 8 ∧ win0_15.index t 2 = 0 :=
  (by decide +kernel : ∀ t : Fin grid0.N, win0_15.index t 0 = t.val / 8 ∧ win0_15.index t 1 = t.val % 8 ∧ win0_15.index t 2 = 0)

/-- Cutting a block of the gates that lies inside the array leaves it as it is. -/
theorem cut_out4 (t : Fin cfg0.N) (x : Vec Ideal S1x512x2048 .bf16) (r : Fin 512) (e : Fin 2048) :
    (cfg0.win 15).cut (grid0.coords t) x (ix3 (0 : Fin 1) r e) = x (ix3 (0 : Fin 1) r e) := rfl

/-- A grid point's block of an array, at an index. -/
theorem read_out4 (t : Fin cfg0.N) (A : Buf (Elt Ideal) ((c : Thread nD τ).loc main_v56_4)) (r : Fin 512) (e : Fin 2048) :
    ((cfg0.win 15).blk t).view.read (Elt Ideal) A (ix3 (0 : Fin 1) r e) = (A : Vec Ideal S8x4096x2048 .bf16) (ix3 (batch t) (row t r) e) := by
  obtain ⟨i0, i1, i2⟩ := index_out4 t
  rw [View.read_apply]
  refine congrArg A (funext fun a => Fin.ext ?_)
  match a with
  | ⟨0, _⟩ => show win0_15.index t 0 * 1 + 1 * 0 = t.val / 8; rw [i0]; omega
  | ⟨1, _⟩ => show win0_15.index t 1 * 512 + 1 * r.val = t.val % 8 * 512 + r.val; rw [i1]; omega
  | ⟨2, _⟩ => show win0_15.index t 2 * 2048 + 1 * e.val = e.val; rw [i2]; omega

/-- What a grid point writes back is that block of the reference's gates. -/
theorem flushed_eq4 (t : Fin cfg0.N) : (dats m 0 c).flushed 15 t = ((cfg0.win 15).blk t).view.read (Elt Ideal) (answer4 m c) := by
  rw [Value.flushed15_A]
  funext j
  obtain ⟨r, e, rfl⟩ : ∃ (r : Fin 512) (e : Fin 2048), j = ix3 (0 : Fin 1) r e := by
    refine ⟨j 1, j 2, funext fun a => ?_⟩
    match a with
    | ⟨0, _⟩ => exact Subsingleton.elim (α := Fin 1) _ _
    | ⟨1, _⟩ => rfl
    | ⟨2, _⟩ => rfl
  refine Eq.trans ?_ (read_out4 c t (answer4 m c) r e).symm
  refine (cut_out4 t _ r e).trans ?_
  refine (out15_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r e)).trans ?_
  refine (cols_row m c t (row t r) _ (fun d => rows_at m c t r d) ⟨6144 + e.val, by omega⟩).trans ?_
  exact (Cert.Reference2Ideal.Own.v139_at (a0 m c) (a1 m c) (a2 m c) (a3 m c) (a4 m c) (batch t) (row t r) e).symm

/-- The blocks of the gates lie wholly inside the array. -/
theorem size_out4 : ∀ t : Fin cfg0.N, win0_15.xsize (grid0.coords t) 0 = 1 ∧ win0_15.xsize (grid0.coords t) 1 = 512 ∧ win0_15.xsize (grid0.coords t) 2 = 2048 :=
  (by decide +kernel : ∀ t : Fin grid0.N, win0_15.xsize (grid0.coords t) 0 = 1 ∧ win0_15.xsize (grid0.coords t) 1 = 512 ∧ win0_15.xsize (grid0.coords t) 2 = 2048)
/-- Every grid point writes its block of the gates back. -/
theorem flush_out4 : ∀ t : Fin cfg0.N, (cfg0.win 15).flush t = true :=
  (by decide +kernel : ∀ t : Fin grid0.N, win0_15.flush t = true)

/-- The array of the gates ends as the reference's. -/
theorem final_out4 : (dats m 0 c).arrAt 15 cfg0.N = answer4 m c :=
  (dats m 0 c).arrAt_eq_of_cover 15 (answer4 m c) (fun t _ => flushed_eq4 m c t) fun i => by
    have h0 : (i 0 : Nat) < 8 := (i 0).isLt
    have h1 : (i 1 : Nat) < 4096 := (i 1).isLt
    have h2 : (i 2 : Nat) < 2048 := (i 2).isLt
    have hN : cfg0.N = 64 := N_0
    have ht : (i 0 : Nat) * 8 + (i 1 : Nat) / 512 < cfg0.N := by rw [hN]; omega
    obtain ⟨i0, i1, i2⟩ := index_out4 ⟨_, ht⟩
    obtain ⟨s0, s1, s2⟩ := size_out4 ⟨_, ht⟩
    refine ⟨⟨_, ht⟩, flush_out4 _, ?_⟩
    show i ∈ ((View.whole main_v56_4).slice (win0_15.rect ⟨_, ht⟩)).set
    rw [View.set_slice_whole, Rect.mem_set_unit]
    intro a
    match a with
    | ⟨0, _⟩ =>
      show win0_15.index ⟨_, ht⟩ 0 * 1 ≤ (i 0 : Nat) ∧ (i 0 : Nat) < win0_15.index ⟨_, ht⟩ 0 * 1 + win0_15.xsize (grid0.coords ⟨_, ht⟩) 0
      rw [i0, s0]; dsimp only; omega
    | ⟨1, _⟩ =>
      show win0_15.index ⟨_, ht⟩ 1 * 512 ≤ (i 1 : Nat) ∧ (i 1 : Nat) < win0_15.index ⟨_, ht⟩ 1 * 512 + win0_15.xsize (grid0.coords ⟨_, ht⟩) 1
      rw [i1, s1]; dsimp only; omega
    | ⟨2, _⟩ =>
      show win0_15.index ⟨_, ht⟩ 2 * 2048 ≤ (i 2 : Nat) ∧ (i 2 : Nat) < win0_15.index ⟨_, ht⟩ 2 * 2048 + win0_15.xsize (grid0.coords ⟨_, ht⟩) 2
      rw [i2, s2]; omega

end Cert.Kernel2Ideal.Own
-- ==== Proof.lean ====
/- The proof of the claims: each frame from the generated runs, the value claims from Proof/Tame.lean and Proof/Whole.lean, and from Proof/InWhole0.lean to Proof/InWhole4.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Tame
public import proofs.«01_k».proof.Proof.InWhole0
public import proofs.«01_k».proof.Proof.InWhole1
public import proofs.«01_k».proof.Proof.InWhole2
public import proofs.«01_k».proof.Proof.InWhole3
public import proofs.«01_k».proof.Proof.InWhole4
public import Idealize.ShloMosaic.Adequacy
public import Idealize.ShloMosaic.Init

@[expose] public section

noncomputable section

namespace Cert.Proof

open Idealize.ShloMosaic Idealize.SL.Sem

/-- The reference terminates and leaves its arguments as they were; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal kernel's factor on the queries is the named constant for the kernel's word. -/
theorem preserves : Cert.preserves_Kernel_KernelIdeal :=
  IdealRules.named_const.statement Cert.KernelIdeal.κ "qscale" .f32 0x3E38AA3B#32 (((8 * (Real.log 2))⁻¹ : ℝ) : EReal) rfl

/-- The ideal kernel and the ideal reference end with the same result. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Own.preFacts) := by
  intro m g m' g' hpre hagree
  refine ⟨fun c => Cert.KernelIdeal.Own.answer m c, ?_, ?_⟩
  · exact (θ_run Cert.KernelIdeal.defs _ _).mono (fun r h c =>
      ⟨(h c).1.trans (Cert.KernelIdeal.Own.final_out m c (Cert.KernelIdeal.Own.tame_of_pre m hpre c)), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9⟩ := hagree c
    rw [Cert.ReferenceIdeal.Read.val_main_v59_eq]
    show _ = Cert.KernelIdeal.Own.answer m c
    unfold Cert.KernelIdeal.Own.answer
    exact congr (congr (congr (congr (congr (congr (congr (congr (congr (congrArg _ e0) e1) e2) e3) e4) e5) e6) e7) e8) e9

/-- The projection's reference terminates and leaves its arguments as they were; it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2.2.2.2.2,
      Idealize.ShloMosaic.sem_eq_zero_of_no_sems (by decide) r.2⟩)
    (Cert.Reference2Ideal.Value.run (F := Ideal) m ρ)

/-- The ideal projection kernel and its ideal reference end with the same five results. -/
theorem algebraic2 : Cert.algebraic_Kernel2Ideal_Reference2Ideal (hKernel2Ideal := Cert.Kernel2Ideal.Gen.facts)
    (hReference2Ideal := Cert.Reference2Ideal.Gen.facts) := by
  intro m g m' g' hpre hagree
  refine ⟨fun c => Cert.Kernel2Ideal.Own.answer0 m c, fun c => Cert.Kernel2Ideal.Own.answer1 m c, fun c => Cert.Kernel2Ideal.Own.answer2 m c,
    fun c => Cert.Kernel2Ideal.Own.answer3 m c, fun c => Cert.Kernel2Ideal.Own.answer4 m c, ?_, ?_⟩
  · exact (θ_run Cert.Kernel2Ideal.defs _ _).mono (fun r h c =>
      ⟨(h c).1.trans (Cert.Kernel2Ideal.Own.final_out0 m c), (h c).2.1.trans (Cert.Kernel2Ideal.Own.final_out1 m c),
        (h c).2.2.1.trans (Cert.Kernel2Ideal.Own.final_out2 m c), (h c).2.2.2.1.trans (Cert.Kernel2Ideal.Own.final_out3 m c),
        (h c).2.2.2.2.1.trans (Cert.Kernel2Ideal.Own.final_out4 m c), (h c).2.2.2.2.2⟩)
      (Cert.Kernel2Ideal.Value.run_blocks (F := Ideal) m g)
  · refine (θ_run Cert.Reference2Ideal.defs _ _).mono (fun r h c => ⟨(h c).1.trans ?_, (h c).2.1.trans ?_, (h c).2.2.1.trans ?_,
        (h c).2.2.2.1.trans ?_, (h c).2.2.2.2.1.trans ?_, (h c).2.2.2.2.2⟩)
      (Cert.Reference2Ideal.Value.run (F := Ideal) m' g')
    all_goals obtain ⟨e0, e1, e2, e3, e4, e5, e6⟩ := hagree c
    · rw [Cert.Reference2Ideal.Read.val_main_v135_eq]
      exact congr (congr (congr (congr (congrArg (Cert.Reference2Ideal.Read.val_main_v135 (F := Ideal)) e0) e1) e2) e3) e4
    · rw [Cert.Reference2Ideal.Read.val_main_v136_eq]
      exact congr (congr (congr (congr (congrArg (Cert.Reference2Ideal.Read.val_main_v136 (F := Ideal)) e0) e1) e2) e3) e4
    · rw [Cert.Reference2Ideal.Read.val_main_v137_eq]
      exact congr (congr (congr (congr (congrArg (Cert.Reference2Ideal.Read.val_main_v137 (F := Ideal)) e0) e1) e2) e3) e4
    · rw [Cert.Reference2Ideal.Read.val_main_v138_eq]
      exact congr (congr (congr (congr (congr (congr (congrArg (Cert.Reference2Ideal.Read.val_main_v138 (F := Ideal)) e0) e1) e2) e3) e4) e5) e6
    · rw [Cert.Reference2Ideal.Read.val_main_v139_eq]
      exact congr (congr (congr (congr (congrArg (Cert.Reference2Ideal.Read.val_main_v139 (F := Ideal)) e0) e1) e2) e3) e4

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.KernelIdeal.Own.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  preserves, algebraic, trivial, algebraic2⟩

end Cert.Proof

end
